-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x384x16x16 : Shape := ⟨4, ![2, 384, 16, 16]⟩
abbrev S12x4 : Shape := ⟨2, ![12, 4]⟩
abbrev S12x1x3x3 : Shape := ⟨4, ![12, 1, 3, 3]⟩
abbrev S1x8x1x1 : Shape := ⟨4, ![1, 8, 1, 1]⟩
abbrev S384x384 : Shape := ⟨2, ![384, 384]⟩
abbrev S_ : Shape := ⟨0, ![]⟩

class Facts : Prop where
  bcast_S_S1x8x1x1 : S_.BroadcastsInDim S1x8x1x1 (![] : Fin 0 → Fin S1x8x1x1.rank)
  reducesTo_S1x8x1x1_S_d0_1_2_3 : S1x8x1x1.ReducesTo [0, 1, 2, 3] S_
  h_S_ : 0 < S_.numel

variable [Facts]

def fn {F : FTy → Type} [FloatOps F] (main_arg0 : FVec F S2x384x16x16 .f32) (main_arg1 : FVec F S12x4 .f32) (main_arg2 : FVec F S12x1x3x3 .f32) (main_arg3 : FVec F S1x8x1x1 .f32) (main_arg4 : FVec F S384x384 .f32) : IVec S_ 1 :=
  let main_v0 : FVec F S1x8x1x1 .f32 := Host.absf main_arg3
  let main_cst : FVec F S_ .f32 := constant S_ .f32 0x7F800000#32
  let main_v1 : FVec F S1x8x1x1 .f32 := broadcastInDim S1x8x1x1 ![] bcast_S_S1x8x1x1 main_cst
  let main_v2 : IVec S1x8x1x1 1 := cmpf .olt main_v0 main_v1
  let main_c : IVec S_ 1 := constantI S_ 1 1#1
  let main_v3 : IVec S_ 1 := (fun x v => Host.reduce IntOp.andi x v reducesTo_S1x8x1x1_S_d0_1_2_3 h_S_) main_v2 main_c
  main_v3
-- ==== Kernel.lean ====
abbrev S2x384x16x16 : Shape := ⟨4, ![2, 384, 16, 16]⟩
abbrev S12x4 : Shape := ⟨2, ![12, 4]⟩
abbrev S12x1x3x3 : Shape := ⟨4, ![12, 1, 3, 3]⟩
abbrev S1x8x1x1 : Shape := ⟨4, ![1, 8, 1, 1]⟩
abbrev S384x384 : Shape := ⟨2, ![384, 384]⟩
abbrev S2x384x256 : Shape := ⟨3, ![2, 384, 256]⟩
abbrev S2x4x8x12x256 : Shape := ⟨5, ![2, 4, 8, 12, 256]⟩
abbrev S1x4x1x12x256 : Shape := ⟨5, ![1, 4, 1, 12, 256]⟩
abbrev S1x384x256 : Shape := ⟨3, ![1, 384, 256]⟩
abbrev S4x8x12x256 : Shape := ⟨4, ![4, 8, 12, 256]⟩
abbrev S1x1x1x1 : Shape := ⟨4, ![1, 1, 1, 1]⟩
abbrev S1x1x1x12x256 : Shape := ⟨5, ![1, 1, 1, 12, 256]⟩
abbrev S12x256 : Shape := ⟨2, ![12, 256]⟩
abbrev S1x256 : Shape := ⟨2, ![1, 256]⟩
abbrev S1x1 : Shape := ⟨2, ![1, 1]⟩
abbrev S12x17 : Shape := ⟨2, ![12, 17]⟩
abbrev S12x239 : Shape := ⟨2, ![12, 239]⟩
abbrev S12x16 : Shape := ⟨2, ![12, 16]⟩
abbrev S12x240 : Shape := ⟨2, ![12, 240]⟩
abbrev S12x15 : Shape := ⟨2, ![12, 15]⟩
abbrev S12x241 : Shape := ⟨2, ![12, 241]⟩
abbrev S12x1 : Shape := ⟨2, ![12, 1]⟩
abbrev S12x255 : Shape := ⟨2, ![12, 255]⟩
abbrev S12x1024 : Shape := ⟨2, ![12, 1024]⟩
abbrev S12 : Shape := ⟨1, ![12]⟩
abbrev S1024x1024 : Shape := ⟨2, ![1024, 1024]⟩
abbrev S1x1024 : Shape := ⟨2, ![1, 1024]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S1024 : Shape := ⟨1, ![1024]⟩
abbrev S13x1024 : Shape := ⟨2, ![13, 1024]⟩
abbrev S1024x256 : Shape := ⟨2, ![1024, 256]⟩
abbrev S13x256 : Shape := ⟨2, ![13, 256]⟩
abbrev S1x1x12x256 : Shape := ⟨4, ![1, 1, 12, 256]⟩
abbrev S384x256 : Shape := ⟨2, ![384, 256]⟩

abbrev nBuf : Space → Nat
  | .hbm => 8
  | .vmem => 8
  | .smem => 3
  | _ => 0

abbrev bufTy : (tb : Table) → Fin (tcTables nBuf tb) → BufTy
  | .hbm, ⟨0, _⟩ => ⟨S2x384x16x16, .f32⟩
  | .hbm, ⟨1, _⟩ => ⟨S12x4, .f32⟩
  | .hbm, ⟨2, _⟩ => ⟨S12x1x3x3, .f32⟩
  | .hbm, ⟨3, _⟩ => ⟨S1x8x1x1, .f32⟩
  | .hbm, ⟨4, _⟩ => ⟨S384x384, .f32⟩
  | .hbm, ⟨5, _⟩ => ⟨S2x384x256, .f32⟩
  | .hbm, ⟨6, _⟩ => ⟨S2x4x8x12x256, .f32⟩
  | .hbm, ⟨7, _⟩ => ⟨S2x384x256, .f32⟩
  | .local _ .vmem, ⟨0, _⟩ => ⟨S1x4x1x12x256, .f32⟩
  | .local _ .vmem, ⟨1, _⟩ => ⟨S1x4x1x12x256, .f32⟩
  | .local _ .vmem, ⟨2, _⟩ => ⟨S1x384x256, .f32⟩
  | .local _ .vmem, ⟨3, _⟩ => ⟨S1x384x256, .f32⟩
  | .local _ .vmem, ⟨4, _⟩ => ⟨S384x384, .f32⟩
  | .local _ .vmem, ⟨5, _⟩ => ⟨S1x384x256, .f32⟩
  | .local _ .vmem, ⟨6, _⟩ => ⟨S1x384x256, .f32⟩
  | .local _ .vmem, ⟨7, _⟩ => ⟨S4x8x12x256, .f32⟩
  | .local _ .smem, ⟨0, _⟩ => ⟨S12x4, .f32⟩
  | .local _ .smem, ⟨1, _⟩ => ⟨S12x1x3x3, .f32⟩
  | .local _ .smem, ⟨2, _⟩ => ⟨S1x8x1x1, .f32⟩
  | _, _ => ⟨S2x384x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_scratch0 : Ref sig .tc := ⟨.vmem, 7, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 8], ![false, false]⟩

def k0_off1 (i : grid0.Coords) : Fin 4 → Nat :=
  let c0 : Index := 0#32
  let arg1 : BitVec 32 := BitVec.ofNat 32 (i 1).val
  let v0 : Index := Scalar.indexCast arg1
  let c0_0 : Index := 0#32
  let c0_1 : Index := 0#32
  ![0, v0.toNat, 0, 0]
def k0_off2 (i : grid0.Coords) : Fin 4 → Nat :=
  let c0_1601 : Index := 0#32
  let arg1 : BitVec 32 := BitVec.ofNat 32 (i 1).val
  let v3892 : Index := Scalar.indexCast arg1
  let c0_1602 : Index := 0#32
  let c0_1603 : Index := 0#32
  ![0, v3892.toNat, 0, 0]
def k0_off3 (i : grid0.Coords) : Fin 4 → Nat :=
  let c1_1605 : Index := 1#32
  let arg1 : BitVec 32 := BitVec.ofNat 32 (i 1).val
  let v3902 : Index := Scalar.indexCast arg1
  let c0_1606 : Index := 0#32
  let c0_1607 : Index := 0#32
  ![1, v3902.toNat, 0, 0]
def k0_off4 (i : grid0.Coords) : Fin 4 → Nat :=
  let c2_1609 : Index := 2#32
  let arg1 : BitVec 32 := BitVec.ofNat 32 (i 1).val
  let v3912 : Index := Scalar.indexCast arg1
  let c0_1610 : Index := 0#32
  let c0_1611 : Index := 0#32
  ![2, v3912.toNat, 0, 0]
def k0_off5 (i : grid0.Coords) : Fin 4 → Nat :=
  let c3_1613 : Index := 3#32
  let arg1 : BitVec 32 := BitVec.ofNat 32 (i 1).val
  let v3922 : Index := Scalar.indexCast arg1
  let c0_1614 : Index := 0#32
  let c0_1615 : Index := 0#32
  ![3, v3922.toNat, 0, 0]
def k0_cond1 (i : grid0.Coords) : BitVec 1 :=
  let arg1 : BitVec 32 := BitVec.ofNat 32 (i 1).val
  let c7_i32 : BitVec 32 := 7#32
  let v3926 : BitVec 1 := Scalar.cmpi .eq arg1 c7_i32
  let v3927 : BitVec 32 := Scalar.extui v3926
  let c0_i32_1616 : BitVec 32 := 0#32
  let v3928 : BitVec 1 := Scalar.cmpi .ne v3927 c0_i32_1616
  v3928

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x1x12x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .smem S12x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S12x1x3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S1x8x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x384x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2x384x16x16 : Shape := ⟨4, ![2, 384, 16, 16]⟩
abbrev S12x4 : Shape := ⟨2, ![12, 4]⟩
abbrev S12x1x3x3 : Shape := ⟨4, ![12, 1, 3, 3]⟩
abbrev S1x8x1x1 : Shape := ⟨4, ![1, 8, 1, 1]⟩
abbrev S384x384 : Shape := ⟨2, ![384, 384]⟩
abbrev S2x4x96x16x16 : Shape := ⟨5, ![2, 4, 96, 16, 16]⟩
abbrev S12x2x96x16x16 : Shape := ⟨5, ![12, 2, 96, 16, 16]⟩
abbrev S2x12x96x16x16 : Shape := ⟨5, ![2, 12, 96, 16, 16]⟩
abbrev S_ : Shape := ⟨0, ![]⟩
abbrev S2x12x96x18x18 : Shape := ⟨5, ![2, 12, 96, 18, 18]⟩
abbrev S1x12x1x3x3 : Shape := ⟨5, ![1, 12, 1, 3, 3]⟩
abbrev S1x12x1x1x1 : Shape := ⟨5, ![1, 12, 1, 1, 1]⟩
abbrev S2x4x8x12x16x16 : Shape := ⟨6, ![2, 4, 8, 12, 16, 16]⟩
abbrev S2x8x12x16x16x4 : Shape := ⟨6, ![2, 8, 12, 16, 16, 4]⟩
abbrev S2x8x12x1024 : Shape := ⟨4, ![2, 8, 12, 1024]⟩
abbrev S2x8x12 : Shape := ⟨3, ![2, 8, 12]⟩
abbrev S2x8x12x1 : Shape := ⟨4, ![2, 8, 12, 1]⟩
abbrev S2x8x1024x1024 : Shape := ⟨4, ![2, 8, 1024, 1024]⟩
abbrev S2x8x1024x1 : Shape := ⟨4, ![2, 8, 1024, 1]⟩
abbrev S1024 : Shape := ⟨1, ![1024]⟩
abbrev S1x1x1x1024 : Shape := ⟨4, ![1, 1, 1, 1024]⟩
abbrev S2x8x1024 : Shape := ⟨3, ![2, 8, 1024]⟩
abbrev S384x2x16x16 : Shape := ⟨4, ![384, 2, 16, 16]⟩
abbrev S2x384x256 : Shape := ⟨3, ![2, 384, 256]⟩

abbrev nBuf : Space → Nat
  | .hbm => 148
  | .vmem => 0
  | .smem => 0
  | _ => 0

abbrev hbmTy0_0 (i : Nat) : BufTy := match i % 128 with
  | 0 => ⟨S2x384x16x16, .f32⟩
  | 1 => ⟨S12x4, .f32⟩
  | 2 => ⟨S12x1x3x3, .f32⟩
  | 3 => ⟨S1x8x1x1, .f32⟩
  | 4 => ⟨S384x384, .f32⟩
  | 5 => ⟨S2x4x96x16x16, .f32⟩
  | 6 => ⟨S12x2x96x16x16, .f32⟩
  | 7 => ⟨S2x12x96x16x16, .f32⟩
  | 8 => ⟨S_, .i32⟩
  | 9 => ⟨S_, .f32⟩
  | 10 => ⟨S2x12x96x18x18, .f32⟩
  | 11 => ⟨S1x12x1x3x3, .f32⟩
  | 12 => ⟨S2x12x96x16x16, .f32⟩
  | 13 => ⟨S1x12x1x1x1, .f32⟩
  | 14 => ⟨S2x12x96x16x16, .f32⟩
  | 15 => ⟨S2x12x96x16x16, .f32⟩
  | 16 => ⟨S_, .f32⟩
  | 17 => ⟨S2x12x96x16x16, .f32⟩
  | 18 => ⟨S2x12x96x16x16, .f32⟩
  | 19 => ⟨S2x12x96x16x16, .f32⟩
  | 20 => ⟨S1x12x1x1x1, .f32⟩
  | 21 => ⟨S2x12x96x16x16, .f32⟩
  | 22 => ⟨S2x12x96x16x16, .f32⟩
  | 23 => ⟨S2x12x96x16x16, .f32⟩
  | 24 => ⟨S2x12x96x16x16, .f32⟩
  | 25 => ⟨S1x12x1x1x1, .f32⟩
  | 26 => ⟨S2x12x96x16x16, .f32⟩
  | 27 => ⟨S2x12x96x16x16, .f32⟩
  | 28 => ⟨S2x12x96x16x16, .f32⟩
  | 29 => ⟨S2x12x96x16x16, .f32⟩
  | 30 => ⟨S1x12x1x1x1, .f32⟩
  | 31 => ⟨S2x12x96x16x16, .f32⟩
  | 32 => ⟨S2x12x96x16x16, .f32⟩
  | 33 => ⟨S2x12x96x16x16, .f32⟩
  | 34 => ⟨S2x12x96x16x16, .f32⟩
  | 35 => ⟨S1x12x1x1x1, .f32⟩
  | 36 => ⟨S2x12x96x16x16, .f32⟩
  | 37 => ⟨S2x12x96x16x16, .f32⟩
  | 38 => ⟨S2x12x96x16x16, .f32⟩
  | 39 => ⟨S2x12x96x16x16, .f32⟩
  | 40 => ⟨S1x12x1x1x1, .f32⟩
  | 41 => ⟨S2x12x96x16x16, .f32⟩
  | 42 => ⟨S2x12x96x16x16, .f32⟩
  | 43 => ⟨S2x12x96x16x16, .f32⟩
  | 44 => ⟨S2x12x96x16x16, .f32⟩
  | 45 => ⟨S1x12x1x1x1, .f32⟩
  | 46 => ⟨S2x12x96x16x16, .f32⟩
  | 47 => ⟨S2x12x96x16x16, .f32⟩
  | 48 => ⟨S2x12x96x16x16, .f32⟩
  | 49 => ⟨S2x12x96x16x16, .f32⟩
  | 50 => ⟨S1x12x1x1x1, .f32⟩
  | 51 => ⟨S2x12x96x16x16, .f32⟩
  | 52 => ⟨S2x12x96x16x16, .f32⟩
  | 53 => ⟨S2x12x96x16x16, .f32⟩
  | 54 => ⟨S2x12x96x16x16, .f32⟩
  | 55 => ⟨S1x12x1x1x1, .f32⟩
  | 56 => ⟨S2x12x96x16x16, .f32⟩
  | 57 => ⟨S2x12x96x16x16, .f32⟩
  | 58 => ⟨S2x12x96x16x16, .f32⟩
  | 59 => ⟨S2x4x96x16x16, .f32⟩
  | 60 => ⟨S2x4x96x16x16, .f32⟩
  | 61 => ⟨S2x4x96x16x16, .f32⟩
  | 62 => ⟨S2x4x8x12x16x16, .f32⟩
  | 63 => ⟨S2x8x12x16x16x4, .f32⟩
  | 64 => ⟨S2x8x12x1024, .f32⟩
  | 65 => ⟨S2x4x8x12x16x16, .f32⟩
  | 66 => ⟨S2x8x12x16x16x4, .f32⟩
  | 67 => ⟨S2x8x12x1024, .f32⟩
  | 68 => ⟨S2x4x8x12x16x16, .f32⟩
  | 69 => ⟨S2x8x12x16x16x4, .f32⟩
  | 70 => ⟨S2x8x12x1024, .f32⟩
  | 71 => ⟨S2x8x12x1024, .f32⟩
  | 72 => ⟨S_, .f32⟩
  | 73 => ⟨S2x8x12, .f32⟩
  | 74 => ⟨S2x8x12x1, .f32⟩
  | 75 => ⟨S2x8x12x1, .f32⟩
  | 76 => ⟨S_, .f32⟩
  | 77 => ⟨S2x8x12x1, .f32⟩
  | 78 => ⟨S2x8x12x1, .f32⟩
  | 79 => ⟨S2x8x12x1024, .f32⟩
  | 80 => ⟨S2x8x12x1024, .f32⟩
  | 81 => ⟨S2x8x12x1024, .f32⟩
  | 82 => ⟨S_, .f32⟩
  | 83 => ⟨S2x8x12, .f32⟩
  | 84 => ⟨S2x8x12x1, .f32⟩
  | 85 => ⟨S2x8x12x1, .f32⟩
  | 86 => ⟨S_, .f32⟩
  | 87 => ⟨S2x8x12x1, .f32⟩
  | 88 => ⟨S2x8x12x1, .f32⟩
  | 89 => ⟨S2x8x12x1024, .f32⟩
  | 90 => ⟨S2x8x12x1024, .f32⟩
  | 91 => ⟨S2x8x1024x1024, .f32⟩
  | 92 => ⟨S2x8x1024x1024, .f32⟩
  | 93 => ⟨S2x8x1024x1024, .f32⟩
  | 94 => ⟨S2x8x1024x1024, .f32⟩
  | 95 => ⟨S2x8x1024x1, .f32⟩
  | 96 => ⟨S1024, .i32⟩
  | 97 => ⟨S_, .i32⟩
  | 98 => ⟨S1024, .i32⟩
  | 99 => ⟨S1024, .i1⟩
  | 100 => ⟨S_, .i32⟩
  | 101 => ⟨S1024, .i32⟩
  | 102 => ⟨S1024, .i32⟩
  | 103 => ⟨S_, .i32⟩
  | 104 => ⟨S1024, .i32⟩
  | 105 => ⟨S1024, .i32⟩
  | 106 => ⟨S_, .i32⟩
  | 107 => ⟨S1024, .i32⟩
  | 108 => ⟨S1024, .i32⟩
  | 109 => ⟨S1024, .i32⟩
  | 110 => ⟨S1024, .f32⟩
  | 111 => ⟨S1x1x1x1024, .f32⟩
  | 112 => ⟨S2x8x1024x1024, .f32⟩
  | 113 => ⟨S2x8x1024x1024, .f32⟩
  | 114 => ⟨S2x8x1024x1024, .i1⟩
  | 115 => ⟨S_, .f32⟩
  | 116 => ⟨S_, .f32⟩
  | 117 => ⟨S2x8x1024x1024, .f32⟩
  | 118 => ⟨S2x8x1024x1024, .f32⟩
  | 119 => ⟨S2x8x1024x1024, .f32⟩
  | 120 => ⟨S_, .f32⟩
  | 121 => ⟨S2x8x1024, .f32⟩
  | 122 => ⟨S2x8x1024x1, .f32⟩
  | 123 => ⟨S2x8x1024x1024, .f32⟩
  | 124 => ⟨S2x8x1024x1024, .i1⟩
  | 125 => ⟨S_, .f32⟩
  | 126 => ⟨S_, .f32⟩
  | 127 => ⟨S2x8x1024x1024, .f32⟩
  | _ => ⟨S2x384x16x16, .f32⟩

abbrev hbmTy0_1 (i : Nat) : BufTy := match i % 128 with
  | 0 => ⟨S2x8x1024x1024, .f32⟩
  | 1 => ⟨S_, .f32⟩
  | 2 => ⟨S2x8x1024, .f32⟩
  | 3 => ⟨S2x8x1024x1, .f32⟩
  | 4 => ⟨S2x8x1024x1024, .f32⟩
  | 5 => ⟨S2x8x1024x1024, .f32⟩
  | 6 => ⟨S2x8x1024x1024, .f32⟩
  | 7 => ⟨S_, .f32⟩
  | 8 => ⟨S2x8x1024, .f32⟩
  | 9 => ⟨S2x8x1024x1, .f32⟩
  | 10 => ⟨S2x8x1024x1024, .f32⟩
  | 11 => ⟨S2x8x1024x1024, .f32⟩
  | 12 => ⟨S2x8x12x1024, .f32⟩
  | 13 => ⟨S2x8x12x16x16x4, .f32⟩
  | 14 => ⟨S2x4x8x12x16x16, .f32⟩
  | 15 => ⟨S2x384x16x16, .f32⟩
  | 16 => ⟨S384x2x16x16, .f32⟩
  | 17 => ⟨S2x384x16x16, .f32⟩
  | 18 => ⟨S2x384x16x16, .f32⟩
  | 19 => ⟨S2x384x256, .f32⟩
  | _ => ⟨S2x384x16x16, .f32⟩

abbrev hbmTy (i : Nat) : BufTy := match i / 128 with
  | 0 => hbmTy0_0 i
  | 1 => hbmTy0_1 i
  | _ => ⟨S2x384x16x16, .f32⟩

abbrev bufTy : (tb : Table) → Fin (tcTables nBuf tb) → BufTy
  | .hbm, ⟨i, _⟩ => hbmTy i
  | _, _ => ⟨S2x384x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_0 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_1 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_cst_2 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_3 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_c_4 : Ref sig .tc := ⟨.hbm, 97, rfl⟩
abbrev main_v85 : Ref sig .tc := ⟨.hbm, 98, rfl⟩
abbrev main_v86 : Ref sig .tc := ⟨.hbm, 99, rfl⟩
abbrev main_c_5 : Ref sig .tc := ⟨.hbm, 100, rfl⟩
abbrev main_v87 : Ref sig .tc := ⟨.hbm, 101, rfl⟩
abbrev main_v88 : Ref sig .tc := ⟨.hbm, 102, rfl⟩
abbrev main_c_6 : Ref sig .tc := ⟨.hbm, 103, rfl⟩
abbrev main_v89 : Ref sig .tc := ⟨.hbm, 104, rfl⟩
abbrev main_v90 : Ref sig .tc := ⟨.hbm, 105, rfl⟩
abbrev main_c_7 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_cst_8 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_v99 : Ref sig .tc := ⟨.hbm, 119, rfl⟩
abbrev main_cst_9 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_cst_10 : Ref sig .tc := ⟨.hbm, 125, rfl⟩
abbrev main_call4_v0 : Ref sig .tc := ⟨.hbm, 126, rfl⟩
abbrev main_call4_v1 : Ref sig .tc := ⟨.hbm, 127, rfl⟩
abbrev main_v104 : Ref sig .tc := ⟨.hbm, 128, rfl⟩
abbrev main_cst_11 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_12 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩

abbrev nD : Nat := 1
abbrev τ : Topo := Topo.v7x

variable {F : FTy → Type} [FloatOps F]
-- ==== Proof.Setup.lean ====
/-
  Set-up for running the idealized kernel: when its one branch is taken, which windows a point leaves alone, the
  buffers a point is handed, and the loop's invariant with the scratch named.
-/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 7 (mod 8) — by arithmetic of the point. -/
theorem hcond0_0 : ∀ t : Fin cfg0.N, cond0_0 (grid0.coords t) ↔ t.val % 8 = 7 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x4x1x12x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x384x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S12x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S12x1x3x3 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1x8x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x384x256 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S4x8x12x256 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Proof.PI

end
-- ==== Proof.Body.lean ====
/-
  The value one point of the idealized kernel's grid computes, written compactly: the twelve convolution slabs, the
  normalised queries and keys, the similarity matrix, the search for each column's threshold bit by bit, the
  exponentials above it, and the four quotients the point stores.
-/
module

public import proofs.«01_k».proof.Proof.Setup

@[expose] public section

noncomputable section

namespace Cert.Proof.PI

open Cert.KernelIdeal Cert.KernelIdeal.Gen
open Idealize.ShloMosaic

variable {F : FTy → Type} [FloatOps F]

/-- Each position's row in the 16×16 image. -/
def hh : IVec S1x256 32 := k0_pay9 k0_pay6 k0_pay7 k0_pay8 0#32

/-- Each position's column in the 16×16 image. -/
def ww : IVec S1x256 32 := k0_pay10 (iota .tc S1x256 32 [1] iota_S1x256_d1_w32)

/-- The word `v` lies in the image once shifted by `d`: at least zero, and below sixteen. -/
def inside (m : IVec S1x256 1) (v : IVec S1x256 32) (d : BitVec 32) : IVec S1x256 1 :=
  andi (andi m (cmpi .sge (addi v (broadcast S1x256 d)) (broadcast S1x256 0#32)))
    (cmpi .slt (addi v (broadcast S1x256 d)) (broadcast S1x256 16#32))

/-- The positions whose neighbour at `(dy, dx)` lies in the image. -/
def mask (dy dx : BitVec 32) : IVec S1x256 1 :=
  inside (andi (cmpi .sge (addi hh (broadcast S1x256 dy)) (broadcast S1x256 0#32))
    (cmpi .slt (addi hh (broadcast S1x256 dy)) (broadcast S1x256 16#32))) ww dx

/-- One tap of the convolution: the shifted row where the neighbour exists, zero elsewhere, times the weight. -/
def tap (dy dx : BitVec 32) (src : FVec F S12x256 .f32) (w : Elt F .f32) : FVec F S12x256 .f32 :=
  mulf (select (broadcastTo S12x256 (shapeCast S1x256 (mask dy dx) shapeCasts_S1x256_S1x256) broadcasts_S1x256_S12x256)
    src (broadcast S12x256 (Scalar.ofBits .f32 0x00000000#32))) (broadcast S12x256 w)

/-- The group projection of one output row: the four input groups by their weights. -/
def mix (X : Fin 4 → FVec F S12x256 .f32) (w : Fin 4 → Elt F .f32) : FVec F S12x256 .f32 :=
  addf (addf (addf (mulf (X 0) (broadcast S12x256 (w 0))) (mulf (X 1) (broadcast S12x256 (w 1))))
    (mulf (X 2) (broadcast S12x256 (w 2)))) (mulf (X 3) (broadcast S12x256 (w 3)))

/-- Two column ranges of `y`, one after the other. -/
abbrev swap (A B : Shape) (a b : ℕ) (y : FVec F S12x256 .f32) (ha : S12x256.Slices ![0, a] A) (hb : S12x256.Slices ![0, b] B)
    (h : Shape.Concatenates [A, B] S12x256 1) : FVec F S12x256 .f32 :=
  concatenate S12x256 1 [⟨A, extractStridedSlice A ![0, a] y ha⟩, ⟨B, extractStridedSlice B ![0, b] y hb⟩] h

/-- The 3×3 depthwise convolution of one row of images, tap by tap. -/
def conv (y : FVec F S12x256 .f32) (w : Fin 3 → Fin 3 → Elt F .f32) : FVec F S12x256 .f32 :=
  addf (addf (addf (addf (addf (addf (addf (addf
    (tap 4294967295#32 4294967295#32 (swap S12x17 S12x239 239 0 y slices_S12x256_o0_239_S12x17 slices_S12x256_o0_0_S12x239 concatenates_S12x17_S12x239_S12x256_d1) (w 0 0))
    (tap 4294967295#32 0#32 (swap S12x16 S12x240 240 0 y slices_S12x256_o0_240_S12x16 slices_S12x256_o0_0_S12x240 concatenates_S12x16_S12x240_S12x256_d1) (w 0 1)))
    (tap 4294967295#32 1#32 (swap S12x15 S12x241 241 0 y slices_S12x256_o0_241_S12x15 slices_S12x256_o0_0_S12x241 concatenates_S12x15_S12x241_S12x256_d1) (w 0 2)))
    (tap 0#32 4294967295#32 (swap S12x1 S12x255 255 0 y slices_S12x256_o0_255_S12x1 slices_S12x256_o0_0_S12x255 concatenates_S12x1_S12x255_S12x256_d1) (w 1 0)))
    (tap 0#32 0#32 y (w 1 1)))
    (tap 0#32 1#32 (swap S12x255 S12x1 1 0 y slices_S12x256_o0_1_S12x255 slices_S12x256_o0_0_S12x1 concatenates_S12x255_S12x1_S12x256_d1) (w 1 2)))
    (tap 1#32 4294967295#32 (swap S12x241 S12x15 15 0 y slices_S12x256_o0_15_S12x241 slices_S12x256_o0_0_S12x15 concatenates_S12x241_S12x15_S12x256_d1) (w 2 0)))
    (tap 1#32 0#32 (swap S12x240 S12x16 16 0 y slices_S12x256_o0_16_S12x240 slices_S12x256_o0_0_S12x16 concatenates_S12x240_S12x16_S12x256_d1) (w 2 1)))
    (tap 1#32 1#32 (swap S12x239 S12x17 17 0 y slices_S12x256_o0_17_S12x239 slices_S12x256_o0_0_S12x17 concatenates_S12x239_S12x17_S12x256_d1) (w 2 2))

/-- Output row `o` of the projection and the convolution. -/
def slab (X : Fin 4 → FVec F S12x256 .f32) (wq : Fin 12 → Fin 4 → Elt F .f32) (wd : Fin 12 → Fin 3 → Fin 3 → Elt F .f32)
    (o : Fin 12) : FVec F S12x256 .f32 := conv (mix X (wq o)) (wd o)

/-- Four slabs side by side: one of the queries, keys and values. -/
def part (s : Fin 4 → FVec F S12x256 .f32) : FVec F S12x1024 .f32 :=
  concatenate S12x1024 1 [⟨S12x256, s 0⟩, ⟨S12x256, s 1⟩, ⟨S12x256, s 2⟩, ⟨S12x256, s 3⟩]
    concatenates_S12x256_S12x256_S12x256_S12x256_S12x1024_d1

/-- Each channel's Euclidean norm over the positions, at least `1e-12`. -/
def norms (q : FVec F S12x1024 .f32) : FVec F S12x1 .f32 :=
  maximumf (sqrt (shapeCast S12x1 (multiReduction .add [1] S12 (mulf q q) 0x00000000#32 reduces_S12x1024_S12 (.inl rfl) rfl)
    shapeCasts_S12_S12x1)) (broadcast S12x1 (Scalar.ofBits .f32 0x2B8CBCCC#32))

/-- The similarity of every key position (row) with every query position (column). -/
def sims (q k : FVec F S12x1024 .f32) (t : Elt F .f32) : FVec F S1024x1024 .f32 :=
  matmul dot_S12x1024_S12x1024_S1024x1024_0_0_1_1_n_n none
    (truncf .bf16 (divf k (broadcastTo S12x1024 (norms k) broadcasts_S12x1_S12x1024)) bitsLt_bf16_f32)
    (truncf .bf16 (mulf q (broadcastTo S12x1024 (divf (broadcast S12x1 t) (norms q)) broadcasts_S12x1_S12x1024)) bitsLt_bf16_f32)
    (constant S1024x1024 .f32 0x00000000#32)

/-- The float whose order key is `key`. -/
def keyFloat (key : IVec S1x1024 32) : FVec F S1x1024 .f32 :=
  bitcastToFloat .f32 (select (cmpi .sge key (broadcast S1x1024 0#32)) key
    (xori (xori key (broadcast S1x1024 2147483648#32)) (constantI S1x1024 32 4294967295#32)))

/-- The sum of the two halves of a stack of rows. -/
abbrev halve (n : ℕ) (m : IVec ⟨2, ![n + n, 1024]⟩ 16) (h0 : (⟨2, ![n + n, 1024]⟩ : Shape).Slices ![0, 0] ⟨2, ![n, 1024]⟩)
    (h1 : (⟨2, ![n + n, 1024]⟩ : Shape).Slices ![n, 0] ⟨2, ![n, 1024]⟩) : IVec ⟨2, ![n, 1024]⟩ 16 :=
  addi (extractStridedSlice ⟨2, ![n, 1024]⟩ ![0, 0] m h0) (extractStridedSlice ⟨2, ![n, 1024]⟩ ![n, 0] m h1)

/-- How many entries of each column are at least that column's float. -/
def counts (a : FVec F S1024x1024 .f32) (f : FVec F S1x1024 .f32) : IVec S1x1024 32 :=
  shapeCast S1x1024 (multiReductionI .add [0] S1024 (extsi 32
    (halve 16 (halve 32 (halve 64 (halve 128
      (halve 256 (halve 512
        (extui 16 (cmpf .oge a (broadcastTo S1024x1024 f broadcasts_S1x1024_S1024x1024)) natLt_1_16)
      slices_S1024x1024_o0_0_S512x1024 slices_S1024x1024_o512_0_S512x1024)
      slices_S512x1024_o0_0_S256x1024 slices_S512x1024_o256_0_S256x1024)
      slices_S256x1024_o0_0_S128x1024 slices_S256x1024_o128_0_S128x1024)
      slices_S128x1024_o0_0_S64x1024 slices_S128x1024_o64_0_S64x1024)
      slices_S64x1024_o0_0_S32x1024 slices_S64x1024_o32_0_S32x1024)
      slices_S32x1024_o0_0_S16x1024 slices_S32x1024_o16_0_S16x1024) natLt_16_32) 0#32 reduces_S16x1024_S1024 rfl)
    shapeCasts_S1024_S1x1024

/-- A candidate: `r` with the bits of `b` set. -/
abbrev cand (b : BitVec 32) (r : IVec S1x1024 32) : IVec S1x1024 32 := ori r (broadcast S1x1024 b)

/-- The word `r` stands for as a signed 16-bit key, -/
abbrev low16 (r : IVec S1x1024 32) : IVec S1x1024 32 :=
  extsi 32 (trunci 16 (subi r (broadcast S1x1024 32768#32)) natLt_16_32) natLt_16_32

/-- and that key as the upper half of a 32-bit one. -/
abbrev keyOf (r : IVec S1x1024 32) : IVec S1x1024 32 := shli (low16 r) (broadcast S1x1024 16#32)

/-- One step of the search: keep bit `b` where at least 819 entries reach the float it stands for. -/
def step (a : FVec F S1024x1024 .f32) (b : BitVec 32) (r : IVec S1x1024 32) : IVec S1x1024 32 :=
  select (cmpi .sge (counts a (keyFloat (keyOf (cand b r)))) (broadcast S1x1024 819#32)) (cand b r) r

/-- The ten steps of the search, from the highest bit down. -/
def search (a : FVec F S1024x1024 .f32) : IVec S1x1024 32 :=
  step a 64#32 (step a 128#32 (step a 256#32 (step a 512#32 (step a 1024#32 (step a 2048#32 (step a 4096#32 (step a 8192#32
    (step a 16384#32 (step a 32768#32 (broadcast S1x1024 0#32))))))))))

/-- The float each column's search result stands for. -/
def thresholds (r : IVec S1x1024 32) : FVec F S1x1024 .f32 :=
  keyFloat (shli (subi r (broadcast S1x1024 32768#32)) (broadcast S1x1024 16#32))

/-- The exponentials of the entries that reach their column's threshold, zero elsewhere. -/
def keptAt (a : FVec F S1024x1024 .f32) (r : IVec S1x1024 32) : FVec F S1024x1024 .f32 :=
  select (cmpf .oge a (broadcastTo S1024x1024 (thresholds r) broadcasts_S1x1024_S1024x1024)) (exp a)
    (broadcast S1024x1024 (Scalar.ofBits .f32 0x00000000#32))

/-- The exponentials above the threshold the search finds. -/
def kept (a : FVec F S1024x1024 .f32) : FVec F S1024x1024 .f32 := keptAt a (search a)

/-- The values with a row of ones below them. -/
def withOnes (v : FVec F S12x1024 .f32) : FVec F S13x1024 .f32 := k0_pay305 v

/-- The weighted values over the sum of the weights, for one block of 256 query positions. -/
def quotient (v : FVec F S13x1024 .f32) (p : FVec F S1024x256 .f32) : FVec F S1x1x12x256 .f32 :=
  k0_pay307 (matmul dot_S13x1024_S1024x256_S13x256_1_0_0_1_n_n none v p (constant S13x256 .f32 0x00000000#32))

/-- The 256 columns from `c` on. -/
abbrev cols (c : ℕ) (p : FVec F S1024x1024 .f32) (h : S1024x1024.Slices ![0, c] S1024x256) : FVec F S1024x256 .f32 :=
  extractStridedSlice S1024x256 ![0, c] p h

variable (X : Fin 4 → FVec F S12x256 .f32) (wq : Fin 12 → Fin 4 → Elt F .f32) (wd : Fin 12 → Fin 3 → Fin 3 → Elt F .f32) (t : Elt F .f32)

/-- The queries, -/
def qs : FVec F S12x1024 .f32 := part ![slab X wq wd 0, slab X wq wd 1, slab X wq wd 2, slab X wq wd 3]
/-- the keys, -/
def ks : FVec F S12x1024 .f32 := part ![slab X wq wd 4, slab X wq wd 5, slab X wq wd 6, slab X wq wd 7]
/-- and the values. -/
def vs : FVec F S12x1024 .f32 := part ![slab X wq wd 8, slab X wq wd 9, slab X wq wd 10, slab X wq wd 11]

/-- The point's similarity matrix. -/
def att : FVec F S1024x1024 .f32 := sims (qs X wq wd) (ks X wq wd) t

/-- What the point stores for each of the four groups of query positions. -/
def stored : Fin 4 → FVec F S1x1x12x256 .f32 :=
  ![quotient (withOnes (vs X wq wd)) (cols 0 (kept (att X wq wd t)) slices_S1024x1024_o0_0_S1024x256),
    quotient (withOnes (vs X wq wd)) (cols 256 (kept (att X wq wd t)) slices_S1024x1024_o0_256_S1024x256),
    quotient (withOnes (vs X wq wd)) (cols 512 (kept (att X wq wd t)) slices_S1024x1024_o0_512_S1024x256),
    quotient (withOnes (vs X wq wd)) (cols 768 (kept (att X wq wd t)) slices_S1024x1024_o0_768_S1024x256)]

end Cert.Proof.PI

end
-- ==== Proof.Run.lean ====
/-
  The idealized kernel's body, run once at any grid point: what its scratch and its output block hold after it.
-/
module

public import proofs.«01_k».proof.Proof.Body
public import Idealize.ShloMosaic.Lib.VecWindow
public import Idealize.ShloMosaic.Lib.WholeRead

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A store over the whole block leaves just what was stored. -/
theorem read_whole {κ : Kind} {sp : Space} {s : Shape} {e : EltTy} (v : View sig κ sp s e) (f : v.ty.Contents (Elt F))
    (off : Fin s.rank → ℕ) (inb : ∀ a, off a + s.size a ≤ s.size a) (w : s.Idx → Elt F e) :
    v.read (Elt F) (v.writes (Elt F) f [⟨Rect.unit off s.size inb, w⟩]) = w := by
  funext y
  have h := View.read_writes_cons_emb v f (Rect.unit off s.size inb) w [] y
  rwa [Rect.emb_unit_full] at h

variable (c : Dev nD) (i : grid0.Coords)
  (arg2 : Memref sig .tc .vmem S1x4x1x12x256 .f32) (harg2 : arg2.IsWhole) (arg3 : Memref sig .tc .vmem S1x384x256 .f32) (harg3 : arg3.IsWhole)
  (arg4 : Memref sig .tc .smem S12x4 .f32) (harg4 : arg4.IsWhole) (arg5 : Memref sig .tc .smem S12x1x3x3 .f32) (harg5 : arg5.IsWhole)
  (arg6 : Memref sig .tc .smem S1x8x1x1 .f32) (harg6 : arg6.IsWhole) (arg7 : Memref sig .tc .vmem S384x384 .f32) (harg7 : arg7.IsWhole)
  (arg8 : Memref sig .tc .vmem S1x384x256 .f32) (harg8 : arg8.IsWhole) (arg9 : Memref sig .tc .vmem S4x8x12x256 .f32) (harg9 : arg9.IsWhole)
  (x0 : Vec F S1x4x1x12x256 .f32) (x1 : Vec F S1x384x256 .f32) (x2 : Vec F S12x4 .f32) (x3 : Vec F S12x1x3x3 .f32) (x4 : Vec F S1x8x1x1 .f32)
  (x5 : Vec F S384x384 .f32) (x9 : Vec F S4x8x12x256 .f32)

set_option maxHeartbeats 1600000 in
/-- The body's triple: it hands the inputs back, leaves in the scratch the stores `w.1` over what was there, and in the
    output block `w.2` when it writes the block, what was there otherwise. -/
def bodyRun :
    { w : List (View.Piece (Elt F) S4x8x12x256 .f32) × FVec F S1x384x256 .f32 //
      ∀ (d6 : Vec F S1x384x256 .f32) (E : Set ℕ) (K : PUnit → sProp 𝕄),
        iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
            ∗ owns (c : Thread nD τ) arg8 fullShare d6 ∗ owns (c : Thread nD τ) arg9 fullShare x9
            ∗ (iprop(owns (c : Thread nD τ) arg2 fullShare x0 ∗ owns (c : Thread nD τ) arg3 fullShare x1 ∗ owns (c : Thread nD τ) arg4 fullShare x2
      ∗ owns (c : Thread nD τ) arg5 fullShare x3 ∗ owns (c : Thread nD τ) arg6 fullShare x4 ∗ owns (c : Thread nD τ) arg7 fullShare x5
              ∗ owns (c : Thread nD τ) arg8 fullShare (if k0_cond1 i = 1#1 then w.2 else d6)
              ∗ owns (c : Thread nD τ) arg9 fullShare (arg9.view.read (Elt F) (arg9.view.writes (Elt F) (harg9.unread x9) w.1))) -∗ K ⟨⟩))
          ⊢ wp Idealize.ShloMosaic.frame (wpE (defs₀ (F := F)) Variants.none c none) E
              (cc0__fused_kernel i arg2 harg2 arg3 harg3 arg4 harg4 arg5 harg5 arg6 harg6 arg7 harg7 arg8 harg8 arg9 harg9) K } := by
  refine ⟨⟨?_, ?_⟩, ?run⟩
  case run =>
    intro d6 E K
    simp only [cc0__fused_kernel_eq_skeleton]; unfold cc0__fused_kernel_skel
    simp only [k0_part94_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hf9, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg9.eq_unread hf9; subst hf6
    sl_exec
    sl_step
    iapply Hk
    isplitl [H0]; · iexists _; isplitr; swap; · iexact H0
                    ipureintro; exact hf0
    isplitl [H1]; · iexists _; isplitr; swap; · iexact H1
                    ipureintro; exact hf1
    isplitl [H2]; · iexists _; isplitr; swap; · iexact H2
                    ipureintro; exact hf2
    isplitl [H3]; · iexists _; isplitr; swap; · iexact H3
                    ipureintro; exact hf3
    isplitl [H4]; · iexists _; isplitr; swap; · iexact H4
                    ipureintro; exact hf4
    isplitl [H5]; · iexists _; isplitr; swap; · iexact H5
                    ipureintro; exact hf5
    isplitl [H6]
    · iexists _; isplitr; swap; · iexact H6
      ipureintro
      by_cases hc : k0_cond1 i = 1#1
      · rw [dif_pos hc, if_pos hc]
        exact read_whole (F := F) _ _ _ _ _
      · rw [dif_neg hc, if_neg hc]
    iexists _; isplitr; swap; · iexact HS0
    ipureintro; rfl

end Cert.Proof.PI

end
-- ==== Proof.Values.lean ====
/-
  What the body's run leaves, in the compact form: each stored value is the point's compact value at the entries the
  run loads.
-/
module

public import proofs.«01_k».proof.Proof.Run

@[expose] public section

set_option maxRecDepth 16384

noncomputable section

namespace Cert.Proof.PI

open Cert.KernelIdeal Cert.KernelIdeal.Gen
open Idealize.ShloMosaic Idealize.ShloMosaic.TcCoe

variable {F : FTy → Type} [FloatOps F]

variable (c : Dev nD) (i : grid0.Coords)
  (arg2 : Memref sig .tc .vmem S1x4x1x12x256 .f32) (harg2 : arg2.IsWhole) (arg3 : Memref sig .tc .vmem S1x384x256 .f32) (harg3 : arg3.IsWhole)
  (arg4 : Memref sig .tc .smem S12x4 .f32) (harg4 : arg4.IsWhole) (arg5 : Memref sig .tc .smem S12x1x3x3 .f32) (harg5 : arg5.IsWhole)
  (arg6 : Memref sig .tc .smem S1x8x1x1 .f32) (harg6 : arg6.IsWhole) (arg7 : Memref sig .tc .vmem S384x384 .f32) (harg7 : arg7.IsWhole)
  (arg8 : Memref sig .tc .vmem S1x384x256 .f32) (harg8 : arg8.IsWhole) (arg9 : Memref sig .tc .vmem S4x8x12x256 .f32) (harg9 : arg9.IsWhole)
  (x0 : Vec F S1x4x1x12x256 .f32) (x1 : Vec F S1x384x256 .f32) (x2 : Vec F S12x4 .f32) (x3 : Vec F S12x1x3x3 .f32) (x4 : Vec F S1x8x1x1 .f32)
  (x5 : Vec F S384x384 .f32) (x9 : Vec F S4x8x12x256 .f32)

/-- The loaded image rows of input group `g`. -/
def loadX (g : Fin 4) : FVec F S12x256 .f32 :=
  shapeCast S12x256 (View.readAt (Elt F) arg2.view (Rect.unit (s := S1x4x1x12x256) ![0, g.val, 0, 0, 0] S1x1x1x12x256.size
    (by intro a; have := g.isLt; fin_cases a <;> simp; omega)).toLoadRect (harg2.unread x0)) shapeCasts_S1x1x1x12x256_S12x256

/-- The loaded projection weight of output row `o` and input group `g`. -/
def loadWq (o : Fin 12) (g : Fin 4) : Elt F .f32 :=
  View.readAt (Elt F) arg4.view (Rect.unit (s := S12x4) ![o.val, g.val] S1x1.size
    (by intro a; have := g.isLt; have := o.isLt; fin_cases a <;> simp <;> omega)).toLoadRect (harg4.unread x2) (Shape.Idx.first (by show 0 < Shape.numel S1x1; decide))

/-- The loaded convolution weight of output row `o` at tap `(u, v)`. -/
def loadWd (o : Fin 12) (u v : Fin 3) : Elt F .f32 :=
  View.readAt (Elt F) arg5.view (Rect.unit (s := S12x1x3x3) ![o.val, 0, u.val, v.val] S1x1x1x1.size
    (by intro a; have := u.isLt; have := v.isLt; have := o.isLt; fin_cases a <;> simp <;> omega)).toLoadRect (harg5.unread x3)
    (Shape.Idx.first (by show 0 < Shape.numel S1x1x1x1; decide))

/-- The loaded temperature of the point's head. -/
def loadT : Elt F .f32 :=
  View.readAt (Elt F) arg6.view (Rect.unit (s := S1x8x1x1) (k0_off1 i) S1x1x1x1.size (k0_off1_inb i)).toLoadRect (harg6.unread x4)
    (Shape.Idx.first (by show 0 < Shape.numel S1x1x1x1; decide))

/-- The keys the run computes are the compact ones. -/
theorem keys_eq : bodyRun.sl.r_220 c arg2 harg2 arg4 harg4 arg5 harg5 x0 x2 x3
    = ks (loadX arg2 harg2 x0) (loadWq arg4 harg4 x2) (loadWd arg5 harg5 x3) := rfl

/-- So are the values, -/
theorem values_eq : bodyRun.sl.r_356 c arg2 harg2 arg4 harg4 arg5 harg5 x0 x2 x3
    = withOnes (vs (loadX arg2 harg2 x0) (loadWq arg4 harg4 x2) (loadWd arg5 harg5 x3)) := rfl

/-- the similarities, -/
theorem att_eq : bodyRun.sl.r_326 c i arg2 harg2 arg4 harg4 arg5 harg5 arg6 harg6 x0 x2 x3 x4
    = att (loadX arg2 harg2 x0) (loadWq arg4 harg4 x2) (loadWd arg5 harg5 x3) (loadT i arg6 harg6 x4) := rfl

section Steps

variable (a : FVec F S1024x1024 .f32) (r : IVec S1x1024 32)

/-! The search's steps as the run cuts them into pieces. -/

/-- The first two steps, in one piece. -/
theorem steps12 : k0_pay275 a r (cand 32768#32 r) (counts a (keyFloat (keyOf (cand 32768#32 r)))) (broadcast S1x1024 819#32)
    = step a 16384#32 (step a 32768#32 r) := rfl

/-- The third step. -/
theorem step3 : k0_pay278 a r (cand 8192#32 r) (low16 (cand 8192#32 r)) = step a 8192#32 r := rfl

/-- The fourth. -/
theorem step4 : k0_pay283 a r (cand 4096#32 r) (keyOf (cand 4096#32 r)) (cmpi .sge (keyOf (cand 4096#32 r)) (broadcast S1x1024 0#32))
    (xori (keyOf (cand 4096#32 r)) (broadcast S1x1024 2147483648#32)) (constantI S1x1024 32 4294967295#32) = step a 4096#32 r := rfl

/-- The comparison of the entries with the candidate, as sixteen-bit words. -/
abbrev reach (f : FVec F S1x1024 .f32) : IVec S1024x1024 16 :=
  extui 16 (cmpf .oge a (broadcastTo S1024x1024 f broadcasts_S1x1024_S1024x1024)) natLt_1_16

/-- Its rows summed to 512, -/
abbrev rows512 (f : FVec F S1x1024 .f32) : IVec S512x1024 16 :=
  halve 512 (reach a f) slices_S1024x1024_o0_0_S512x1024 slices_S1024x1024_o512_0_S512x1024

/-- and to 64. -/
abbrev rows64 (f : FVec F S1x1024 .f32) : IVec S64x1024 16 :=
  halve 64 (halve 128 (halve 256 (rows512 a f) slices_S512x1024_o0_0_S256x1024 slices_S512x1024_o256_0_S256x1024)
      slices_S256x1024_o0_0_S128x1024 slices_S256x1024_o128_0_S128x1024)
      slices_S128x1024_o0_0_S64x1024 slices_S128x1024_o64_0_S64x1024

/-- The fifth, from half of its rows. -/
theorem step5 : k0_pay287 r (cand 2048#32 r) (rows512 a (keyFloat (keyOf (cand 2048#32 r))))
    (extractStridedSlice S256x1024 ![0, 0] (rows512 a (keyFloat (keyOf (cand 2048#32 r)))) slices_S512x1024_o0_0_S256x1024)
    = step a 2048#32 r := rfl

/-- The sixth, from its rows summed to 64. -/
theorem step6 : k0_pay292 r (cand 1024#32 r)
    (extractStridedSlice S32x1024 ![0, 0] (rows64 a (keyFloat (keyOf (cand 1024#32 r)))) slices_S64x1024_o0_0_S32x1024)
    (extractStridedSlice S32x1024 ![32, 0] (rows64 a (keyFloat (keyOf (cand 1024#32 r)))) slices_S64x1024_o32_0_S32x1024)
    = step a 1024#32 r := rfl

/-- The seventh and the eighth, in one piece. -/
theorem steps78 : k0_pay296 a r (cand 512#32 r) (counts a (keyFloat (keyOf (cand 512#32 r)))) (broadcast S1x1024 819#32)
    = step a 256#32 (step a 512#32 r) := rfl

/-- The ninth. -/
theorem step9 : k0_pay299 a r (cand 128#32 r) (low16 (cand 128#32 r)) = step a 128#32 r := rfl

/-- The tenth, and the exponentials kept after it. -/
theorem step10 : k0_pay304 a r (cand 64#32 r) (keyOf (cand 64#32 r)) (cmpi .sge (keyOf (cand 64#32 r)) (broadcast S1x1024 0#32))
    (xori (keyOf (cand 64#32 r)) (broadcast S1x1024 2147483648#32)) (constantI S1x1024 32 4294967295#32) = keptAt a (step a 64#32 r) := rfl

end Steps

/-- The prefix after two steps of the run, -/
theorem r328_eq : bodyRun.sl.r_328 c i arg2 harg2 arg4 harg4 arg5 harg5 arg6 harg6 x0 x2 x3 x4
    = step (bodyRun.sl.r_326 c i arg2 harg2 arg4 harg4 arg5 harg5 arg6 harg6 x0 x2 x3 x4) 16384#32 (step (bodyRun.sl.r_326 c i arg2 harg2 arg4 harg4 arg5 harg5 arg6 harg6 x0 x2 x3 x4) 32768#32 (broadcast S1x1024 0#32)) := steps12 (bodyRun.sl.r_326 c i arg2 harg2 arg4 harg4 arg5 harg5 arg6 harg6 x0 x2 x3 x4) (broadcast S1x1024 0#32)

/-- after three, -/
theorem r331_eq : bodyRun.sl.r_331 c i arg2 harg2 arg4 harg4 arg5 harg5 arg6 harg6 x0 x2 x3 x4
    = step (bodyRun.sl.r_326 c i arg2 harg2 arg4 harg4 arg5 harg5 arg6 harg6 x0 x2 x3 x4) 8192#32 (bodyRun.sl.r_328 c i arg2 harg2 arg4 harg4 arg5 harg5 arg6 harg6 x0 x2 x3 x4) := step3 (bodyRun.sl.r_326 c i arg2 harg2 arg4 harg4 arg5 harg5 arg6 harg6 x0 x2 x3 x4) (bodyRun.sl.r_328 c i arg2 harg2 arg4 harg4 arg5 harg5 arg6 harg6 x0 x2 x3 x4)

/-- after four, -/
theorem r336_eq : bodyRun.sl.r_336 c i arg2 harg2 arg4 harg4 arg5 harg5 arg6 harg6 x0 x2 x3 x4
    = step (bodyRun.sl.r_326 c i arg2 harg2 arg4 harg4 arg5 harg5 arg6 harg6 x0 x2 x3 x4) 4096#32 (bodyRun.sl.r_331 c i arg2 harg2 arg4 harg4 arg5 harg5 arg6 harg6 x0 x2 x3 x4) := step4 (bodyRun.sl.r_326 c i arg2 harg2 arg4 harg4 arg5 harg5 arg6 harg6 x0 x2 x3 x4) (bodyRun.sl.r_331 c i arg2 harg2 arg4 harg4 arg5 harg5 arg6 harg6 x0 x2 x3 x4)

/-- after five, -/
theorem r340_eq : bodyRun.sl.r_340 c i arg2 harg2 arg4 harg4 arg5 harg5 arg6 harg6 x0 x2 x3 x4
    = step (bodyRun.sl.r_326 c i arg2 harg2 arg4 harg4 arg5 harg5 arg6 harg6 x0 x2 x3 x4) 2048#32 (bodyRun.sl.r_336 c i arg2 harg2 arg4 harg4 arg5 harg5 arg6 harg6 x0 x2 x3 x4) := step5 (bodyRun.sl.r_326 c i arg2 harg2 arg4 harg4 arg5 harg5 arg6 harg6 x0 x2 x3 x4) (bodyRun.sl.r_336 c i arg2 harg2 arg4 harg4 arg5 harg5 arg6 harg6 x0 x2 x3 x4)

/-- after six, -/
theorem r344_eq : bodyRun.sl.r_344 c i arg2 harg2 arg4 harg4 arg5 harg5 arg6 harg6 x0 x2 x3 x4
    = step (bodyRun.sl.r_326 c i arg2 harg2 arg4 harg4 arg5 harg5 arg6 harg6 x0 x2 x3 x4) 1024#32 (bodyRun.sl.r_340 c i arg2 harg2 arg4 harg4 arg5 harg5 arg6 harg6 x0 x2 x3 x4) := step6 (bodyRun.sl.r_326 c i arg2 harg2 arg4 harg4 arg5 harg5 arg6 harg6 x0 x2 x3 x4) (bodyRun.sl.r_340 c i arg2 harg2 arg4 harg4 arg5 harg5 arg6 harg6 x0 x2 x3 x4)

/-- after eight, -/
theorem r347_eq : bodyRun.sl.r_347 c i arg2 harg2 arg4 harg4 arg5 harg5 arg6 harg6 x0 x2 x3 x4
    = step (bodyRun.sl.r_326 c i arg2 harg2 arg4 harg4 arg5 harg5 arg6 harg6 x0 x2 x3 x4) 256#32 (step (bodyRun.sl.r_326 c i arg2 harg2 arg4 harg4 arg5 harg5 arg6 harg6 x0 x2 x3 x4) 512#32 (bodyRun.sl.r_344 c i arg2 harg2 arg4 harg4 arg5 harg5 arg6 harg6 x0 x2 x3 x4)) := steps78 (bodyRun.sl.r_326 c i arg2 harg2 arg4 harg4 arg5 harg5 arg6 harg6 x0 x2 x3 x4) (bodyRun.sl.r_344 c i arg2 harg2 arg4 harg4 arg5 harg5 arg6 harg6 x0 x2 x3 x4)

/-- after nine, -/
theorem r350_eq : bodyRun.sl.r_350 c i arg2 harg2 arg4 harg4 arg5 harg5 arg6 harg6 x0 x2 x3 x4
    = step (bodyRun.sl.r_326 c i arg2 harg2 arg4 harg4 arg5 harg5 arg6 harg6 x0 x2 x3 x4) 128#32 (bodyRun.sl.r_347 c i arg2 harg2 arg4 harg4 arg5 harg5 arg6 harg6 x0 x2 x3 x4) := step9 (bodyRun.sl.r_326 c i arg2 harg2 arg4 harg4 arg5 harg5 arg6 harg6 x0 x2 x3 x4) (bodyRun.sl.r_347 c i arg2 harg2 arg4 harg4 arg5 harg5 arg6 harg6 x0 x2 x3 x4)

/-- and the exponentials kept after ten. -/
theorem r355_eq : bodyRun.sl.r_355 c i arg2 harg2 arg4 harg4 arg5 harg5 arg6 harg6 x0 x2 x3 x4
    = keptAt (bodyRun.sl.r_326 c i arg2 harg2 arg4 harg4 arg5 harg5 arg6 harg6 x0 x2 x3 x4) (step (bodyRun.sl.r_326 c i arg2 harg2 arg4 harg4 arg5 harg5 arg6 harg6 x0 x2 x3 x4) 64#32 (bodyRun.sl.r_350 c i arg2 harg2 arg4 harg4 arg5 harg5 arg6 harg6 x0 x2 x3 x4)) := step10 (bodyRun.sl.r_326 c i arg2 harg2 arg4 harg4 arg5 harg5 arg6 harg6 x0 x2 x3 x4) (bodyRun.sl.r_350 c i arg2 harg2 arg4 harg4 arg5 harg5 arg6 harg6 x0 x2 x3 x4)

/-- The exponentials the run keeps are the compact ones. -/
theorem kept_eq : bodyRun.sl.r_355 c i arg2 harg2 arg4 harg4 arg5 harg5 arg6 harg6 x0 x2 x3 x4
    = kept (bodyRun.sl.r_326 c i arg2 harg2 arg4 harg4 arg5 harg5 arg6 harg6 x0 x2 x3 x4) := by
  rw [r355_eq, r350_eq, r347_eq, r344_eq, r340_eq, r336_eq, r331_eq, r328_eq]; rfl

end Cert.Proof.PI

end
-- ==== Proof.Outcome.lean ====
/-
  The body's run as a function of the blocks it is given: the scratch gains the four quotients of the point's head, and
  the output block, when written, is the residual plus the projection of the whole scratch.
-/
module

public import proofs.«01_k».proof.Proof.Values
public import Idealize.ShloMosaic.Lib.Pointwise
public import Idealize.ShloMosaic.Lib.WritesUnit
public import Idealize.ShloMosaic.Lib.Pipeline.Value

@[expose] public section

set_option maxRecDepth 16384

noncomputable section

namespace Cert.Proof.PI

open Cert.KernelIdeal Cert.KernelIdeal.Gen
open Idealize.ShloMosaic Idealize.ShloMosaic.TcCoe

variable {F : FTy → Type} [FloatOps F]

variable (c : Dev nD) (i : grid0.Coords)
  (arg2 : Memref sig .tc .vmem S1x4x1x12x256 .f32) (harg2 : arg2.IsWhole) (arg3 : Memref sig .tc .vmem S1x384x256 .f32) (harg3 : arg3.IsWhole)
  (arg4 : Memref sig .tc .smem S12x4 .f32) (harg4 : arg4.IsWhole) (arg5 : Memref sig .tc .smem S12x1x3x3 .f32) (harg5 : arg5.IsWhole)
  (arg6 : Memref sig .tc .smem S1x8x1x1 .f32) (harg6 : arg6.IsWhole) (arg7 : Memref sig .tc .vmem S384x384 .f32) (harg7 : arg7.IsWhole)
  (arg8 : Memref sig .tc .vmem S1x384x256 .f32) (harg8 : arg8.IsWhole) (arg9 : Memref sig .tc .vmem S4x8x12x256 .f32) (harg9 : arg9.IsWhole)
  (x0 : Vec F S1x4x1x12x256 .f32) (x1 : Vec F S1x384x256 .f32) (x2 : Vec F S12x4 .f32) (x3 : Vec F S12x1x3x3 .f32) (x4 : Vec F S1x8x1x1 .f32)
  (x5 : Vec F S384x384 .f32) (x9 : Vec F S4x8x12x256 .f32)

/-- The image rows of input group `g`. -/
def imgs (g : Fin 4) : FVec F S12x256 .f32 := fun y => x0 (ix5 0 g 0 (y 0) (y 1))

/-- The projection weights, -/
def wqs (o : Fin 12) (g : Fin 4) : Elt F .f32 := x2 (ix2 o g)

/-- the convolution weights, -/
def wds (o : Fin 12) (u v : Fin 3) : Elt F .f32 := x3 (ix4 o 0 u v)

/-- and the temperature of head `h`. -/
def temp (h : Fin 8) : Elt F .f32 := x4 (ix4 0 h 0 0)

omit [FloatOps F] in
/-- The loads the run makes are these entries. -/
theorem loadX_eq : loadX arg2 harg2 x0 = imgs x0 := by
  funext g y
  unfold loadX imgs
  refine (Idealize.ShloMosaic.shapeCast_apply _ _ y (ix5 0 0 0 (y 0) (y 1)) ?_).trans ?_
  · rw [Shape.rowMajor_val_five, Shape.rowMajor_val_two]
    show (((0 * 1 + 0) * 1 + 0) * 12 + (y 0).val) * 256 + (y 1).val = (y 0).val * 256 + (y 1).val
    omega
  · refine (harg2.readAt_unread x0 _ _).trans ?_
    refine congrArg x0 (funext fun a => Fin.ext ?_)
    match a with
    | ⟨0, _⟩ => rfl
    | ⟨1, _⟩ => rfl
    | ⟨2, _⟩ => rfl
    | ⟨3, _⟩ => show 0 + 1 * (y 0).val = (y 0).val; omega
    | ⟨4, _⟩ => show 0 + 1 * (y 1).val = (y 1).val; omega

omit [FloatOps F] in
/-- The projection weights that the run loads are the block's, -/
theorem loadWq_eq : loadWq arg4 harg4 x2 = wqs x2 := by
  funext o g
  unfold loadWq wqs
  rw [harg4.readAt_unread]
  refine congrArg x2 (funext fun a => Fin.ext ?_)
  match a with
  | ⟨0, _⟩ => rfl
  | ⟨1, _⟩ => rfl

omit [FloatOps F] in
/-- so are the convolution weights, -/
theorem loadWd_eq : loadWd arg5 harg5 x3 = wds x3 := by
  funext o u v
  unfold loadWd wds
  rw [harg5.readAt_unread]
  refine congrArg x3 (funext fun a => Fin.ext ?_)
  match a with
  | ⟨0, _⟩ => rfl
  | ⟨1, _⟩ => rfl
  | ⟨2, _⟩ => rfl
  | ⟨3, _⟩ => rfl

/-- The head's word is its number. -/
theorem head_toNat : (BitVec.ofNat 32 (i 1).val).toNat = (i 1).val := by
  have h : (i 1).val < 8 := (i 1).isLt
  rw [BitVec.toNat_ofNat]
  omega

omit [FloatOps F] in
/-- and the temperature is that of the point's head. -/
theorem loadT_eq : loadT i arg6 harg6 x4 = temp x4 (i 1) := by
  unfold loadT temp
  rw [harg6.readAt_unread]
  refine congrArg x4 (funext fun a => Fin.ext ?_)
  match a with
  | ⟨0, _⟩ => rfl
  | ⟨1, _⟩ => exact head_toNat i
  | ⟨2, _⟩ => rfl
  | ⟨3, _⟩ => rfl

/-- What head `h`'s point stores for group `g` of query positions. -/
def headOut (h : Fin 8) (g : Fin 4) : FVec F S1x1x12x256 .f32 := stored (imgs x0) (wqs x2) (wds x3) (temp x4 h) g

/-- The scratch after head `h`'s point. -/
def gain (h : Fin 8) : Vec F S4x8x12x256 .f32 := fun y =>
  if (y 1).val = h.val then headOut x0 x2 x3 x4 h (y 0) (ix4 0 0 (y 2) (y 3)) else x9 y

/-- The four stores of a point, latest first. -/
def pieces (s : Fin 4 → FVec F S1x1x12x256 .f32) : List (View.Piece (Elt F) S4x8x12x256 .f32) :=
  [⟨Rect.unit (k0_off5 i) S1x1x12x256.size (k0_off5_inb i), s 3⟩, ⟨Rect.unit (k0_off4 i) S1x1x12x256.size (k0_off4_inb i), s 2⟩,
   ⟨Rect.unit (k0_off3 i) S1x1x12x256.size (k0_off3_inb i), s 1⟩, ⟨Rect.unit (k0_off2 i) S1x1x12x256.size (k0_off2_inb i), s 0⟩]

/-- The run's stores are the compact ones. -/
theorem stores_eq : (bodyRun c i arg2 harg2 arg3 harg3 arg4 harg4 arg5 harg5 arg6 harg6 arg7 harg7 arg8 harg8 arg9 harg9 x0 x1 x2 x3 x4 x5 x9).1.1
    = pieces i (headOut x0 x2 x3 x4 (i 1)) := by
  show pieces i ![k0_pay307 (bodyRun.sl.r_357 c i arg2 harg2 arg4 harg4 arg5 harg5 arg6 harg6 x0 x2 x3 x4),
    k0_pay308 (bodyRun.sl.r_355 c i arg2 harg2 arg4 harg4 arg5 harg5 arg6 harg6 x0 x2 x3 x4) (bodyRun.sl.r_356 c arg2 harg2 arg4 harg4 arg5 harg5 x0 x2 x3),
    k0_pay309 (bodyRun.sl.r_355 c i arg2 harg2 arg4 harg4 arg5 harg5 arg6 harg6 x0 x2 x3 x4) (bodyRun.sl.r_356 c arg2 harg2 arg4 harg4 arg5 harg5 x0 x2 x3),
    k0_pay310 (bodyRun.sl.r_355 c i arg2 harg2 arg4 harg4 arg5 harg5 arg6 harg6 x0 x2 x3 x4) (bodyRun.sl.r_356 c arg2 harg2 arg4 harg4 arg5 harg5 x0 x2 x3)] = _
  have e : bodyRun.sl.r_357 c i arg2 harg2 arg4 harg4 arg5 harg5 arg6 harg6 x0 x2 x3 x4
      = matmul dot_S13x1024_S1024x256_S13x256_1_0_0_1_n_n none (bodyRun.sl.r_356 c arg2 harg2 arg4 harg4 arg5 harg5 x0 x2 x3)
        (cols 0 (bodyRun.sl.r_355 c i arg2 harg2 arg4 harg4 arg5 harg5 arg6 harg6 x0 x2 x3 x4) slices_S1024x1024_o0_0_S1024x256)
        (constant S13x256 .f32 0x00000000#32) := rfl
  rw [e, kept_eq, values_eq, att_eq, loadX_eq, loadWq_eq, loadWd_eq, loadT_eq]
  rfl

/-- The four stores read as the scratch after the point. -/
theorem read_pieces (h : Fin 8) (hh : i 1 = h) : arg9.view.read (Elt F) (arg9.view.writes (Elt F) (harg9.unread x9) (pieces i (headOut x0 x2 x3 x4 h)))
    = gain x0 x2 x3 x4 x9 h := by
  funext y
  have hy1 : (i 1).val = h.val := congrArg Fin.val hh
  have hn := head_toNat i
  have key : ∀ (k : Fin 4) (off : Fin 4 → ℕ) (inb : ∀ a, off a + S1x1x12x256.size a ≤ S4x8x12x256.size a)
      (e : off = ![k.val, (BitVec.ofNat 32 (i 1).val).toNat, 0, 0]) (x : (Rect.unit (s := S4x8x12x256) off S1x1x12x256.size inb).shape.Idx),
      headOut x0 x2 x3 x4 h k x = gain x0 x2 x3 x4 x9 h ((Rect.unit (s := S4x8x12x256) off S1x1x12x256.size inb).emb x) := by
    rintro k off inb rfl x
    have b0 : (x 0).val < 1 := (x 0).isLt
    have b1 : (x 1).val < 1 := (x 1).isLt
    have e1 : (((Rect.unit (s := S4x8x12x256) ![k.val, (BitVec.ofNat 32 (i 1).val).toNat, 0, 0] S1x1x12x256.size inb).emb x) 1).val = h.val := by
      show (BitVec.ofNat 32 (i 1).val).toNat + 1 * (x 1).val = h.val
      omega
    have e0 : ((Rect.unit (s := S4x8x12x256) ![k.val, (BitVec.ofNat 32 (i 1).val).toNat, 0, 0] S1x1x12x256.size inb).emb x) 0 = k :=
      Fin.ext (by show k.val + 1 * (x 0).val = k.val; omega)
    rw [gain, if_pos e1, e0]
    refine congrArg _ (funext fun a => Fin.ext ?_)
    match a with
    | ⟨0, _⟩ => show (x 0).val = 0; omega
    | ⟨1, _⟩ => show (x 1).val = 0; omega
    | ⟨2, _⟩ => show (x 2).val = 0 + 1 * (x 2).val; omega
    | ⟨3, _⟩ => show (x 3).val = 0 + 1 * (x 3).val; omega
  by_cases hy : (y 1).val = h.val
  · have hm : ∀ (k : Fin 4) (off : Fin 4 → ℕ) (inb : ∀ a, off a + S1x1x12x256.size a ≤ S4x8x12x256.size a)
        (e : off = ![k.val, (BitVec.ofNat 32 (i 1).val).toNat, 0, 0]) (hk : (y 0).val = k.val), y ∈ (Rect.unit (s := S4x8x12x256) off S1x1x12x256.size inb).set := by
      rintro k off inb rfl hk
      rw [Rect.mem_set_unit]
      intro a
      have b2 : (y 2).val < 12 := (y 2).isLt
      have b3 : (y 3).val < 256 := (y 3).isLt
      match a with
      | ⟨0, _⟩ => show k.val ≤ (y 0).val ∧ (y 0).val < k.val + 1; omega
      | ⟨1, _⟩ =>
        show (BitVec.ofNat 32 (i 1).val).toNat ≤ (y 1).val ∧ (y 1).val < (BitVec.ofNat 32 (i 1).val).toNat + 1
        omega
      | ⟨2, _⟩ => show 0 ≤ (y 2).val ∧ (y 2).val < 0 + 12; omega
      | ⟨3, _⟩ => show 0 ≤ (y 3).val ∧ (y 3).val < 0 + 256; omega
    refine View.read_writes_apply_of_pieces _ _ (gain x0 x2 x3 x4 x9 h) _ ?_ y ?_
    · intro p hp
      simp only [pieces, List.mem_cons, List.not_mem_nil, or_false] at hp
      rcases hp with rfl | rfl | rfl | rfl
      · exact key 3 _ (k0_off5_inb i) rfl
      · exact key 2 _ (k0_off4_inb i) rfl
      · exact key 1 _ (k0_off3_inb i) rfl
      · exact key 0 _ (k0_off2_inb i) rfl
    · have b0 : (y 0).val < 4 := (y 0).isLt
      unfold pieces
      rcases (by omega : (y 0).val = 3 ∨ (y 0).val = 2 ∨ (y 0).val = 1 ∨ (y 0).val = 0) with e | e | e | e
      · exact ⟨_, .head _, hm 3 _ (k0_off5_inb i) rfl e⟩
      · exact ⟨_, .tail _ (.head _), hm 2 _ (k0_off4_inb i) rfl e⟩
      · exact ⟨_, .tail _ (.tail _ (.head _)), hm 1 _ (k0_off3_inb i) rfl e⟩
      · exact ⟨_, .tail _ (.tail _ (.tail _ (.head _))), hm 0 _ (k0_off2_inb i) rfl e⟩
  · rw [gain, if_neg hy]
    have hv : (y 1).val ≠ (i 1).val := fun e => hy (e.trans hy1)
    unfold pieces
    refine (View.read_writes_cons_unit_of_not_mem (s := S4x8x12x256) _ _ _ _ _ _ rfl 1 ?_).trans
      ((View.read_writes_cons_unit_of_not_mem (s := S4x8x12x256) _ _ _ _ _ _ rfl 1 ?_).trans
      ((View.read_writes_cons_unit_of_not_mem (s := S4x8x12x256) _ _ _ _ _ _ rfl 1 ?_).trans
      ((View.read_writes_cons_unit_of_not_mem (s := S4x8x12x256) _ _ _ _ _ _ rfl 1 ?_).trans
        (congrFun (harg9.read_unread x9) y))))
    all_goals
      show (y 1).val < (BitVec.ofNat 32 (i 1).val).toNat ∨ (BitVec.ofNat 32 (i 1).val).toNat + 1 ≤ (y 1).val
      omega

/-- What the run leaves in the output block when it writes it. -/
theorem block_eq : (bodyRun c i arg2 harg2 arg3 harg3 arg4 harg4 arg5 harg5 arg6 harg6 arg7 harg7 arg8 harg8 arg9 harg9 x0 x1 x2 x3 x4 x5 x9).1.2
    = k0_pay1 (gain x0 x2 x3 x4 x9 (i 1)) x1 x5 := by
  have e := stores_eq c i arg2 harg2 arg3 harg3 arg4 harg4 arg5 harg5 arg6 harg6 arg7 harg7 arg8 harg8 arg9 harg9 x0 x1 x2 x3 x4 x5 x9
  show k0_pay1 (View.readAt (Elt F) arg9.view (Rect.unit ![0, 0, 0, 0] S4x8x12x256.size inb_S4x8x12x256_S4x8x12x256_0_0_0_0).toLoadRect
      (arg9.view.writes (Elt F) (harg9.unread x9)
        (bodyRun c i arg2 harg2 arg3 harg3 arg4 harg4 arg5 harg5 arg6 harg6 arg7 harg7 arg8 harg8 arg9 harg9 x0 x1 x2 x3 x4 x5 x9).1.1))
    (View.readAt (Elt F) arg3.view (Rect.unit ![0, 0, 0] S1x384x256.size inb_S1x384x256_S1x384x256_0_0_0).toLoadRect (harg3.unread x1))
    (View.readAt (Elt F) arg7.view (Rect.unit ![0, 0] S384x384.size inb_S384x384_S384x384_0_0).toLoadRect (harg7.unread x5)) = _
  rw [e, View.readAt_full, View.readAt_full, View.readAt_full, harg3.read_unread, harg7.read_unread]
  exact congrArg (fun z => k0_pay1 z x1 x5) (read_pieces i arg9 harg9 x0 x2 x3 x4 x9 (i 1) rfl)

end Cert.Proof.PI

end
-- ==== Proof.Launch.lean ====
/-
  The idealized kernel's run: every point adds its head to the scratch, the last point of a batch writes the batch's
  output block, and nothing else changes.
-/
module

public import proofs.«01_k».proof.Proof.Outcome
public import Idealize.ShloMosaic.Lib.Pipeline.ValueKit

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point numbered `n` (reduced to the grid's sixteen). -/
def point (n : ℕ) : Fin cfg0.N := ⟨n % 16, lt_of_lt_of_eq (Nat.mod_lt _ (by decide)) N_0.symm⟩

/-- A point is the point of its number. -/
theorem point_val (t : Fin cfg0.N) : point t.val = t :=
  Fin.ext (Nat.mod_eq_of_lt (lt_of_lt_of_eq t.isLt N_0))

/-- The scratch when every head of batch `b` has been added. -/
def full (c : Dev nD) (b : ℕ) : Vec F S4x8x12x256 .f32 := fun y =>
  headOut (iblk m c 0 (point (8 * b + (y 1).val))) (iblk m c 2 (point (8 * b + (y 1).val))) (iblk m c 3 (point (8 * b + (y 1).val)))
    (iblk m c 4 (point (8 * b + (y 1).val))) (y 1) (y 0) (ix4 0 0 (y 2) (y 3))

/-- The output block of batch `b`, written at point `t`. -/
def outBlk (c : Dev nD) (t : Fin cfg0.N) : Vec F S1x384x256 .f32 := k0_pay1 (full m c (t.val / 8)) (iblk m c 1 t) (iblk m c 5 t)

/-- Before point `n` the scratch holds the heads of the batch so far. -/
def Held (c : Dev nD) (n : ℕ) (S : Vec F S4x8x12x256 .f32) : Prop := ∀ y, (y 1).val < n % 8 → S y = full m c (n / 8) y

/-- What every window's buffer holds after a point, and the scratch between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := iprop(iprop(∃ S, ⌜Held m c t.val S⌝ ∗ owns (c : Thread nD τ) scM0_0 fullShare S) ∗ (∃ r, prngReg c r))
  q _ := fullShare
  owed _ := 0

/-- The arrays are what the region finds. -/
theorem A_eq (c : Dev nD) (w : Fin cfg0.W) : (dats m 0 c).A w = V m c (Pipeline.arrRef spec0 w) := by
  dsimp only [dats]

/-- A point leaves input 0's block in its buffer, -/
theorem after_0 (c : Dev nD) (t : Fin cfg0.N) : (dats m 0 c).after 0 t = iblk m c 0 t := by dsimp only [dats]
/-- and input 1's, -/
theorem after_1 (c : Dev nD) (t : Fin cfg0.N) : (dats m 0 c).after 1 t = iblk m c 1 t := by dsimp only [dats]
/-- and input 2's, -/
theorem after_2 (c : Dev nD) (t : Fin cfg0.N) : (dats m 0 c).after 2 t = iblk m c 2 t := by dsimp only [dats]
/-- and input 3's, -/
theorem after_3 (c : Dev nD) (t : Fin cfg0.N) : (dats m 0 c).after 3 t = iblk m c 3 t := by dsimp only [dats]
/-- and input 4's, -/
theorem after_4 (c : Dev nD) (t : Fin cfg0.N) : (dats m 0 c).after 4 t = iblk m c 4 t := by dsimp only [dats]
/-- and input 5's; -/
theorem after_5 (c : Dev nD) (t : Fin cfg0.N) : (dats m 0 c).after 5 t = iblk m c 5 t := by dsimp only [dats]
/-- the output's buffer, where it is written, holds the batch's block. -/
theorem after_6 (c : Dev nD) (t : Fin cfg0.N) : (dats m 0 c).after 6 t = outBlk m c t := by dsimp only [dats]

/-- A point finds input 0's block in its buffer, -/
theorem before_0 (c : Dev nD) (t : Fin cfg0.N) (d) : (dats m 0 c).before 0 t d = iblk m c 0 t :=
  before0_0_of m (dats m 0 c) (A_eq m c 0) (after_0 m c) t d
/-- and input 1's, -/
theorem before_1 (c : Dev nD) (t : Fin cfg0.N) (d) : (dats m 0 c).before 1 t d = iblk m c 1 t :=
  before0_1_of m (dats m 0 c) (A_eq m c 1) (after_1 m c) t d
/-- and input 2's, -/
theorem before_2 (c : Dev nD) (t : Fin cfg0.N) (d) : (dats m 0 c).before 2 t d = iblk m c 2 t :=
  before0_2_of m (dats m 0 c) (A_eq m c 2) (after_2 m c) t d
/-- and input 3's, -/
theorem before_3 (c : Dev nD) (t : Fin cfg0.N) (d) : (dats m 0 c).before 3 t d = iblk m c 3 t :=
  before0_3_of m (dats m 0 c) (A_eq m c 3) (after_3 m c) t d
/-- and input 4's, -/
theorem before_4 (c : Dev nD) (t : Fin cfg0.N) (d) : (dats m 0 c).before 4 t d = iblk m c 4 t :=
  before0_4_of m (dats m 0 c) (A_eq m c 4) (after_4 m c) t d
/-- and input 5's. -/
theorem before_5 (c : Dev nD) (t : Fin cfg0.N) (d) : (dats m 0 c).before 5 t d = iblk m c 5 t :=
  before0_5_of m (dats m 0 c) (A_eq m c 5) (after_5 m c) t d

/-- The second grid coordinate of a point is its number within the batch. -/
theorem coord_1 (t : Fin cfg0.N) : (grid0.coords t 1).val = t.val % 8 := by
  have e1 : (grid0.coords t 1).val = t.val / 1 % 8 := Pipeline.Grid.coords_val t 1 (by decide) rfl
  rw [e1, Nat.div_one]

/-- The scratch after a point. -/
abbrev grown (c : Dev nD) (t : Fin cfg0.N) (S : Vec F S4x8x12x256 .f32) : Vec F S4x8x12x256 .f32 :=
  gain (iblk m c 0 t) (iblk m c 2 t) (iblk m c 3 t) (iblk m c 4 t) S (grid0.coords t 1)

/-- What a point adds, and what it keeps, are the heads of the batch up to it. -/
theorem grown_eq (c : Dev nD) (t : Fin cfg0.N) (S : Vec F S4x8x12x256 .f32) (h : Held m c t.val S) (y : S4x8x12x256.Idx)
    (hy : (y 1).val ≤ t.val % 8) : grown m c t S y = full m c (t.val / 8) y := by
  have e1 := coord_1 t
  unfold grown gain
  by_cases hh : (y 1).val = (grid0.coords t 1).val
  · have hp : point (8 * (t.val / 8) + (y 1).val) = t := by
      rw [hh, e1, Nat.div_add_mod, point_val]
    have hy1 : grid0.coords t 1 = y 1 := Fin.ext hh.symm
    rw [if_pos hh, hy1]
    unfold full
    rw [hp]
  · rw [if_neg hh]
    exact h y (by omega)

/-- A point hands the next what it must find. -/
theorem held_succ (c : Dev nD) (t : Fin cfg0.N) (S : Vec F S4x8x12x256 .f32) (h : Held m c t.val S) :
    Held m c (t.val + 1) (grown m c t S) := by
  intro y hy
  have hd : (t.val + 1) / 8 = t.val / 8 := by omega
  rw [hd]
  exact grown_eq m c t S h y (by omega)

/-- At a batch's last point the scratch is complete. -/
theorem grown_last (c : Dev nD) (t : Fin cfg0.N) (S : Vec F S4x8x12x256 .f32) (h : Held m c t.val S) (h7 : t.val % 8 = 7) :
    grown m c t S = full m c (t.val / 8) := by
  funext y
  have : (y 1).val < 8 := (y 1).isLt
  exact grown_eq m c t S h y (by omega)

/-- What a point is handed, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The output's buffer after a point: the batch's block where it is written, and what it was elsewhere. -/
theorem leaves_6 (c : Dev nD) (t : Fin cfg0.N) (d) (X : Vec F S1x384x256 .f32) (hX : t.val % 8 = 7 → X = outBlk m c t) :
    owns (c : Thread nD τ) (ms0_6 t) fullShare (if k0_cond1 (grid0.coords t) = 1#1 then X else (dats m 0 c).before 6 t d)
      ⊢ (dats m 0 c).leavesExact 6 t := by
  by_cases h : t.val % 8 = 7
  · have hc : k0_cond1 (grid0.coords t) = 1#1 := (hcond0_0 t).mpr h
    rw [if_pos hc, hX h]
    have hi : cfg0.idle 6 (grid0.coords t) = false := by show (!(k0_cond1 (grid0.coords t) == 1#1)) = false; rw [hc]; rfl
    rw [show (dats m 0 c).leavesExact 6 t = owns (c : Thread nD τ) (ms0_6 t) fullShare ((dats m 0 c).after 6 t) from by
      unfold Dat.leavesExact; rw [hi], after_6]
  · have hc : ¬ k0_cond1 (grid0.coords t) = 1#1 := fun e => h ((hcond0_0 t).mp e)
    rw [if_neg hc]
    have hi : cfg0.idle 6 (grid0.coords t) = true := by
      show (!(k0_cond1 (grid0.coords t) == 1#1)) = true
      rw [Bool.not_eq_true', beq_eq_false_iff_ne]; exact hc
    have hf : (cfg0.win 6).flush t = false := by
      rw [Bool.eq_false_iff]; exact fun e => h ((flush0_6 t).mp e)
    rw [(dats m 0 c).leavesExact_idle 6 t hi hf]
    iintro H
    iexists d
    iexact H

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.castSucc = iprop(iprop(∃ S, ⌜Held m c t.val S⌝ ∗ owns (c : Thread nD τ) scM0_0 fullShare S) ∗ (∃ r, prngReg c r)) from rfl,
    show (dats m 0 c).Φ t.succ = iprop(iprop(∃ S, ⌜Held m c (t.val + 1) S⌝ ∗ owns (c : Thread nD τ) scM0_0 fullShare S) ∗ (∃ r, prngReg c r)) from rfl]
  rw [show (dats m 0 c).leavesExact 0 t = owns (c : Thread nD τ) (ms0_0 t) fullShare ((dats m 0 c).after 0 t) from by
    unfold Dat.leavesExact; rw [liveAt0_0 t], after_0]
  rw [show (dats m 0 c).leavesExact 1 t = owns (c : Thread nD τ) (ms0_1 t) fullShare ((dats m 0 c).after 1 t) from by
    unfold Dat.leavesExact; rw [liveAt0_1 t], after_1]
  rw [show (dats m 0 c).leavesExact 2 t = owns (c : Thread nD τ) (ms0_2 t) fullShare ((dats m 0 c).after 2 t) from by
    unfold Dat.leavesExact; rw [liveAt0_2 t], after_2]
  rw [show (dats m 0 c).leavesExact 3 t = owns (c : Thread nD τ) (ms0_3 t) fullShare ((dats m 0 c).after 3 t) from by
    unfold Dat.leavesExact; rw [liveAt0_3 t], after_3]
  rw [show (dats m 0 c).leavesExact 4 t = owns (c : Thread nD τ) (ms0_4 t) fullShare ((dats m 0 c).after 4 t) from by
    unfold Dat.leavesExact; rw [liveAt0_4 t], after_4]
  rw [show (dats m 0 c).leavesExact 5 t = owns (c : Thread nD τ) (ms0_5 t) fullShare ((dats m 0 c).after 5 t) from by
    unfold Dat.leavesExact; rw [liveAt0_5 t], after_5]
  iintro ⟨⟨⟨%S, %hS, HS⟩, Hg⟩, Ho, ⟨%d0, H0⟩, ⟨%d1, H1⟩, ⟨%d2, H2⟩, ⟨%d3, H3⟩, ⟨%d4, H4⟩, ⟨%d5, H5⟩, ⟨%d6, H6⟩⟩
  have hst := stores_eq c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) (iblk m c 0 t) (iblk m c 1 t) (iblk m c 2 t) (iblk m c 3 t) (iblk m c 4 t) (iblk m c 5 t) S
  have hbl := block_eq c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) (iblk m c 0 t) (iblk m c 1 t) (iblk m c 2 t) (iblk m c 3 t) (iblk m c 4 t) (iblk m c 5 t) S
  have hrd := read_pieces (F := F) (grid0.coords t) scM0_0 (Memref.isWhole_whole _) (iblk m c 0 t) (iblk m c 2 t) (iblk m c 3 t) (iblk m c 4 t) S (grid0.coords t 1) rfl
  iapply ((bodyRun c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) scM0_0 (Memref.isWhole_whole _) (iblk m c 0 t) (iblk m c 1 t) (iblk m c 2 t) (iblk m c 3 t) (iblk m c 4 t) (iblk m c 5 t) S).2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  rw [hst, hrd, hbl]
  iintro ⟨H0, H1, H2, H3, H4, H5, H6, HS⟩
  isplitl [HS Hg]
  · isplitl [HS]
    · iexists _
      isplitr [HS]
      · ipureintro; exact held_succ m c t S hS
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves_6 m c t d6 _ (fun h7 => congrArg (fun z => k0_pay1 z (iblk m c 1 t) (iblk m c 5 t)) (grown_last m c t S hS h7)))
  iexact H6

/-- The body table's row at a point is the body. -/
theorem row_eq (t : Fin cfg0.N) :
    defs₀ (F := F) .tc cfg0.body (cfg0.bodyArgs t (cfg0.slots t)) = bodyAt0 t := by
  unfold defs₀; rw [Defs.onTc_tc]

/-- The body keeps its contract at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- The scratch at anything is what the first point needs, -/
theorem scratch_in (c : Dev nD) : (Pipeline.ΦA spec0 c : sProp 𝕄) ⊢ (dats m 0 c).Φ 0 := by
  rw [PhiA0_eq, show (dats m 0 c).Φ 0 = iprop(iprop(∃ S, ⌜Held m c 0 S⌝ ∗ owns (c : Thread nD τ) scM0_0 fullShare S) ∗ (∃ r, prngReg c r)) from rfl]
  iintro ⟨⟨%S, HS⟩, Hg⟩
  isplitl [HS]
  · iexists S
    isplitr [HS]
    · ipureintro; intro y hy; exact absurd hy (Nat.not_lt_zero _)
    iexact HS
  iexact Hg

/-- and what the last one leaves is the scratch at something. -/
theorem scratch_out (c : Dev nD) : (dats m 0 c).Φ (Fin.last cfg0.N) ⊢ (Pipeline.ΦA spec0 c : sProp 𝕄) := by
  rw [PhiA0_eq, show (dats m 0 c).Φ (Fin.last cfg0.N) = iprop(iprop(∃ S, ⌜Held m c cfg0.N S⌝ ∗ owns (c : Thread nD τ) scM0_0 fullShare S) ∗ (∃ r, prngReg c r)) from rfl]
  iintro ⟨⟨%S, %hS, HS⟩, Hg⟩
  isplitl [HS]
  · iexists S
    iexact HS
  iexact Hg

set_option backward.isDefEq.respectTransparency.types false in
/-- The kernel's run: every array ends as the points leave it, every counter at zero. -/
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := scratch_in m) (hout := scratch_out m)

/-- Every run of the idealized kernel ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Proof.PI

end
-- ==== Proof.Same.lean ====
/-
  The kernel as printed and its idealization are one program, so every run of the one is a run of the other.
-/
module

public import proofs.«01_k».proof.Defs
public import proofs.«01_k».proof.Proof.Gen.Kernel
public import proofs.«01_k».proof.Proof.Gen.KernelIdeal
public import proofs.«01_k».proof.Proof.Launch

@[expose] public section

set_option maxRecDepth 100000

noncomputable section

namespace Cert.Proof.Same

open Idealize.ShloMosaic Idealize.SL.Sem

section
variable {F : FTy → Type} [FloatOps F] [Cert.Kernel.Facts] [Cert.KernelIdeal.Facts]

/-- The two bodies are one. -/
theorem body_eq : Cert.Kernel.cc0__fused_kernel (F := F) = Cert.KernelIdeal.cc0__fused_kernel := rfl

/-- The two tables of bodies are one. -/
theorem bodies_eq : Cert.Kernel.defs₀ (F := F) = Cert.KernelIdeal.defs₀ :=
  congrArg Defs.onTc (funext fun l => funext fun x => by
    match l, x with
    | 0, (t, s) =>
      change Cert.Kernel.cc0__fused_kernel _ _ _ _ _ _ _ _ _ _ _ _ _ _ _ _ _ = Cert.KernelIdeal.cc0__fused_kernel _ _ _ _ _ _ _ _ _ _ _ _ _ _ _ _ _
      rw [body_eq]
      rfl)

/-- The two tables of procedures are one. -/
theorem procs_eq : Cert.Kernel.defs (F := F) = Cert.KernelIdeal.defs :=
  congrArg (Pipeline.defs (Cert.Kernel.pcfgs (F := F))) bodies_eq

/-- The two main programs are one. -/
theorem main_eq : Cert.Kernel.main (F := F) = Cert.KernelIdeal.main (F := F) := rfl
end

/-- Every run of the kernel ends with its arguments unchanged and every counter at zero. -/
theorem frame : Cert.quiescent_Kernel (hKernel := Cert.Kernel.Gen.facts) := fun m ρ _ => by
  have h := Cert.Proof.PI.frame (F := Bits) m ρ
  haveI := Cert.Kernel.Gen.facts
  haveI := Cert.KernelIdeal.Gen.facts
  rw [← procs_eq, ← main_eq] at h
  exact h

end Cert.Proof.Same

end
-- ==== Proof.Conv.lean ====
/-
  The zero-padded 3×3 convolution of a 16×16 image, on extended reals.
-/
module

public import Idealize.ShloMosaic.PureOps.Ideal.Laws

@[expose] public section

noncomputable section

namespace Cert.Proof.Conv

open Idealize.ShloMosaic

/-- The neighbour at `(u - 1, v - 1)` of position `p` lies in the image. -/
abbrev Near (p u v : ℕ) : Prop := (1 ≤ p / 16 + u ∧ p / 16 + u - 1 < 16) ∧ (1 ≤ p % 16 + v ∧ p % 16 + v - 1 < 16)

/-- The neighbour's value, zero outside the image. -/
def near (Y : Fin 12 → Fin 256 → EReal) (c : Fin 12) (p : Fin 256) (u v : ℕ) : EReal :=
  if h : Near p.val u v then Y c ⟨(p.val / 16 + u - 1) * 16 + (p.val % 16 + v - 1), by omega⟩ else 0

/-- The nine taps. -/
def conv (Y : Fin 12 → Fin 256 → EReal) (w : Fin 3 → Fin 3 → EReal) (c : Fin 12) (p : Fin 256) : EReal :=
  near Y c p 0 0 * w 0 0 + near Y c p 0 1 * w 0 1 + near Y c p 0 2 * w 0 2 + near Y c p 1 0 * w 1 0 + near Y c p 1 1 * w 1 1
    + near Y c p 1 2 * w 1 2 + near Y c p 2 0 * w 2 0 + near Y c p 2 1 * w 2 1 + near Y c p 2 2 * w 2 2

/-- The group projection: four input groups by their weights. -/
def mix (x : Fin 4 → EReal) (w : Fin 4 → EReal) : EReal := x 0 * w 0 + x 1 * w 1 + x 2 * w 2 + x 3 * w 3

/-- Output row `o` of projection and convolution. -/
def row (x : Fin 4 → Fin 12 → Fin 256 → EReal) (wq : Fin 12 → Fin 4 → EReal) (wd : Fin 12 → Fin 3 → Fin 3 → EReal)
    (o c : Fin 12) (p : Fin 256) : EReal := conv (fun c p => mix (fun g => x g c p) (wq o)) (wd o) c p

/-- `x` is a real number. -/
def IsReal (x : EReal) : Prop := ∃ r : ℝ, x = r

end Cert.Proof.Conv

end
-- ==== Proof.Softmax.lean ====
/-
  A softmax over the entries that reach a threshold, the greatest entry subtracted first and every weight divided by the
  weights' sum, is the quotient of the weighted sum by the sum of the plain exponentials.
-/
module

public import Idealize.ShloMosaic.PureOps.Ideal.Laws

@[expose] public section

noncomputable section

namespace Cert.Proof.Soft

open Idealize.ShloMosaic

/-- A sum of reals is a real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a real other than zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul]
  rfl

/-- A quotient by a positive real is a product with its inverse. -/
theorem div_pos (x : EReal) (y : ℝ) (hy : 0 < y) : Ideal.div x (y : EReal) = x * ((y⁻¹ : ℝ) : EReal) := by
  unfold Ideal.div
  rw [if_neg (by exact_mod_cast hy.ne'), ← EReal.coe_inv]

variable {ι : Type} [Fintype ι]

/-- A nonnegative real factor goes into a sum, whatever its terms. -/
theorem sum_mul_coe (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top _), ih]

/-- The two spellings of the softmax above a threshold. -/
theorem softmax_eq (a : ι → ℝ) (v : ι → EReal) (T : EReal) (hS : ∃ m, T ≤ (a m : EReal)) :
    Ideal.div (∑ m, v m * (if T ≤ (a m : EReal) then Ideal.exp (a m) else 0))
        (∑ m, (if T ≤ (a m : EReal) then Ideal.exp (a m) else 0))
      = ∑ m, v m * Ideal.div
          (Ideal.exp ((if T ≤ (a m : EReal) then (a m : EReal) else ⊥)
            - Finset.univ.fold max ⊥ fun m => if T ≤ (a m : EReal) then (a m : EReal) else ⊥))
          (∑ m', Ideal.exp ((if T ≤ (a m' : EReal) then (a m' : EReal) else ⊥)
            - Finset.univ.fold max ⊥ fun m => if T ≤ (a m : EReal) then (a m : EReal) else ⊥)) := by
  classical
  obtain ⟨m0, h0⟩ := hS
  obtain ⟨μ, hμ⟩ : ∃ μ : ℝ, (Finset.univ.fold max ⊥ fun m => if T ≤ (a m : EReal) then (a m : EReal) else ⊥) = (μ : EReal) := by
    set M := Finset.univ.fold max ⊥ fun m => if T ≤ (a m : EReal) then (a m : EReal) else ⊥ with hM
    have hbot : M ≠ ⊥ := by
      have : (a m0 : EReal) ≤ M := (Finset.le_fold_max _).mpr (.inr ⟨m0, Finset.mem_univ _, by rw [if_pos h0]⟩)
      exact ne_of_gt (lt_of_lt_of_le (EReal.bot_lt_coe _) this)
    have htop : M ≠ ⊤ := by
      have : M < ⊤ := by
        refine (Finset.fold_max_lt _).mpr ⟨bot_lt_top, fun m _ => ?_⟩
        split
        · exact EReal.coe_lt_top _
        · exact bot_lt_top
      exact this.ne
    exact ⟨M.toReal, (EReal.coe_toReal htop hbot).symm⟩
  rw [hμ]
  have hE : ∀ m, Ideal.exp ((if T ≤ (a m : EReal) then (a m : EReal) else ⊥) - (μ : EReal))
      = (((if T ≤ (a m : EReal) then Real.exp (a m - μ) else 0) : ℝ) : EReal) := by
    intro m
    split
    · rw [← EReal.coe_sub]; rfl
    · rw [EReal.bot_sub]; rfl
  have hp : ∀ m, (if T ≤ (a m : EReal) then Ideal.exp (a m) else 0)
      = (((if T ≤ (a m : EReal) then Real.exp (a m) else 0) : ℝ) : EReal) := by
    intro m
    split
    · rfl
    · rfl
  simp only [hE, hp, ← coe_sum]
  have pos : ∀ f : ι → ℝ, 0 < ∑ m, (if T ≤ (a m : EReal) then Real.exp (f m) else 0) := by
    intro f
    refine Finset.sum_pos' (fun m _ => ?_) ⟨m0, Finset.mem_univ _, ?_⟩
    · split
      · exact (Real.exp_pos _).le
      · exact le_rfl
    · rw [if_pos h0]; exact Real.exp_pos _
  have scale : ∀ m, (if T ≤ (a m : EReal) then Real.exp (a m) else 0)
      = Real.exp μ * (if T ≤ (a m : EReal) then Real.exp (a m - μ) else 0) := by
    intro m
    split
    · rw [← Real.exp_add]; congr 1; ring
    · ring
  have h1 := (pos fun m => a m - μ).ne'
  have h2 := (Real.exp_pos μ).ne'
  have tot : (∑ m, if T ≤ (a m : EReal) then Real.exp (a m) else 0)
      = Real.exp μ * ∑ m, if T ≤ (a m : EReal) then Real.exp (a m - μ) else 0 := by
    rw [Finset.mul_sum]; exact Finset.sum_congr rfl fun m _ => scale m
  rw [div_pos _ _ (pos a), sum_mul_coe _ _ _ (inv_nonneg.mpr (pos a).le)]
  refine Finset.sum_congr rfl fun m _ => ?_
  rw [div_coe _ _ h1, mul_assoc, ← EReal.coe_mul, scale m, tot]
  congr 2
  field_simp

end Cert.Proof.Soft

end
-- ==== Proof.Sim.lean ====
/-
  The cosine similarities, two ways: keys and queries divided by their norms, multiplied, summed and scaled; or the
  scale divided by the query's norm first. With a real scale they agree, since the norms are held above a positive constant
  and an infinite entry makes its norm infinite and every quotient by it zero.
-/
module

public import proofs.«01_k».proof.Proof.Conv
public import proofs.«01_k».proof.Proof.Softmax

@[expose] public section

noncomputable section

namespace Cert.Proof.Sim

open Idealize.ShloMosaic
open Cert.Proof.Conv (IsReal)

/-- The least norm divided by. -/
def eps : EReal := Ideal.ofBits .f32 0x2B8CBCCC#32

/-- It is a positive real. -/
theorem eps_pos : ∃ r : ℝ, 0 < r ∧ eps = (r : EReal) := by
  have e : ((0x2B8CBCCC#32).extractLsb' 23 8).toNat = 87 := by decide +kernel
  have f : ((0x2B8CBCCC#32).extractLsb' 0 23).toNat = 834764 := by decide +kernel
  have s : ((0x2B8CBCCC#32).extractLsb' (8 + 23) 1 == 1#1) = false := by decide +kernel
  unfold eps Ideal.ofBits Ideal.ieee
  simp only [e, f, s, Bool.false_eq_true, ↓reduceIte]
  refine ⟨_, ?_, rfl⟩
  norm_num

/-- A channel's norm over the positions. -/
def nrm (f : Fin 1024 → EReal) : EReal := max (Ideal.sqrt (∑ n, f n * f n)) eps

/-- It does not depend on the positions' order, -/
theorem nrm_comp (f : Fin 1024 → EReal) (e : Fin 1024 ≃ Fin 1024) : nrm (fun n => f (e n)) = nrm f := by
  unfold nrm
  rw [Equiv.sum_comp e fun n => f n * f n]

/-- and of reals it is a positive real. -/
theorem nrm_real (f : Fin 1024 → ℝ) : ∃ r : ℝ, 0 < r ∧ nrm (fun n => (f n : EReal)) = (r : EReal) := by
  obtain ⟨ε, hε, he⟩ := eps_pos
  refine ⟨max (Real.sqrt (∑ n, f n * f n)) ε, lt_max_of_lt_right hε, ?_⟩
  unfold nrm
  simp only [he, ← EReal.coe_mul, ← Soft.coe_sum]
  have h0 : ¬(∑ n, f n * f n) < 0 := not_lt.mpr (Finset.sum_nonneg fun n _ => mul_self_nonneg _)
  show max (if (∑ n, f n * f n) < 0 then (⊥ : EReal) else (Real.sqrt (∑ n, f n * f n) : EReal)) (ε : EReal) = _
  rw [if_neg h0]
  exact (EReal.coe_strictMono.monotone.map_max).symm

/-- Unless all entries are real, the norm is infinite. -/
theorem nrm_top (f : Fin 1024 → EReal) (n : Fin 1024) (h : ¬IsReal (f n)) : nrm f = ⊤ := by
  have sq : ∀ x : EReal, 0 ≤ x * x := fun x => by
    induction x using EReal.rec with
    | bot => simp
    | top => simp
    | coe r => exact_mod_cast mul_self_nonneg r
  have one : f n * f n = ⊤ := by
    generalize f n = x at h
    induction x using EReal.rec with
    | bot => simp
    | top => simp
    | coe r => exact absurd ⟨r, rfl⟩ h
  have all : ∑ n, f n * f n = ⊤ := by
    have le : f n * f n ≤ ∑ n, f n * f n :=
      Finset.single_le_sum (f := fun n => f n * f n) (fun i _ => sq (f i)) (Finset.mem_univ n)
    rw [one] at le
    exact eq_top_iff.mpr le
  unfold nrm
  rw [all, show Ideal.sqrt ⊤ = ⊤ from rfl, max_eq_left le_top]

/-- An entry over the norm is a real, and the entry times a real over the norm is that real's multiple of it. -/
theorem unit (f : Fin 1024 → EReal) (n : Fin 1024) : ∃ a : ℝ, Ideal.div (f n) (nrm f) = (a : EReal)
    ∧ ∀ τ : ℝ, f n * Ideal.div (τ : EReal) (nrm f) = ((a * τ : ℝ) : EReal) := by
  by_cases hf : ∀ n, IsReal (f n)
  · choose F hF using hf
    obtain rfl : f = fun n => (F n : EReal) := funext hF
    obtain ⟨r, hr, e⟩ := nrm_real F
    refine ⟨F n / r, by rw [e, Soft.div_coe _ _ hr.ne'], fun τ => ?_⟩
    rw [e, Soft.div_coe _ _ hr.ne', ← EReal.coe_mul]
    exact congrArg Real.toEReal (by ring)
  · obtain ⟨n', hn⟩ := not_forall.mp hf
    have z : ∀ x : EReal, Ideal.div x ⊤ = 0 := fun x => by simp [Ideal.div]
    exact ⟨0, by rw [nrm_top f n' hn, z]; rfl, fun τ => by rw [nrm_top f n' hn, z, mul_zero, zero_mul]; rfl⟩

variable {t : EReal}

/-- The two spellings agree, and their value is a real. -/
theorem sim_eq (q k : Fin 12 → Fin 1024 → EReal) (ht : IsReal t) (m n : Fin 1024) :
    (∑ c, Ideal.div (k c m) (nrm (k c)) * (q c n * Ideal.div t (nrm (q c))))
        = (∑ c, Ideal.div (q c n) (nrm (q c)) * Ideal.div (k c m) (nrm (k c))) * t
      ∧ IsReal ((∑ c, Ideal.div (q c n) (nrm (q c)) * Ideal.div (k c m) (nrm (k c))) * t) := by
  obtain ⟨τ, rfl⟩ := ht
  choose a ha hA using fun c => unit (q c) n
  choose b hb _ using fun c => unit (k c) m
  simp only [ha, hA, hb, ← EReal.coe_mul, ← Soft.coe_sum]
  refine ⟨congrArg _ ?_, _, rfl⟩
  rw [Finset.sum_mul]
  exact Finset.sum_congr rfl fun c _ => by ring

end Cert.Proof.Sim

end
-- ==== Proof.Levels.lean ====
/-
  The floats the search can settle on. A class is a choice of the ten leading bits of a binary32 word; numbered by the
  order of the floats, class `u` has the least float `lev u`. The levels rise with their number, from the bottom up to
  the top at 1022.
-/
module

public import Idealize.ShloMosaic.Lib.TotalOrder
public import Idealize.ShloMosaic.PureOps.Ideal.Laws

@[expose] public section

set_option maxRecDepth 16384

noncomputable section

namespace Cert.Proof.Level

open Idealize.ShloMosaic

/-- The word of class `u`'s least float: the ten leading bits, then zeros on a positive word and ones on a negative. -/
def word (u : ℕ) : BitVec 32 :=
  if 512 ≤ u then BitVec.ofNat 32 ((u - 512) * 4194304) else BitVec.ofNat 32 ((1023 - u) * 4194304 + 4194303)

/-- Class `u`'s least float. -/
def lev (u : ℕ) : EReal := Ideal.ofBits .f32 (word u)

/-- From 2 to 1022 the words are no NaNs, -/
theorem word_notNaN (u : ℕ) (h2 : 2 ≤ u) (h : u ≤ 1022) : ¬TotalOrder.IsNaN 8 23 (word u) := by
  have key : ∀ u : Fin 1021, ¬(((word (u.val + 2)).extractLsb' 23 8).toNat = 2 ^ 8 - 1
      ∧ ((word (u.val + 2)).extractLsb' 0 23).toNat ≠ 0) := by decide +kernel
  have := key ⟨u - 2, by omega⟩
  simp only [Nat.sub_add_cancel h2] at this
  exact this

/-- no two neighbours are both zeros, -/
theorem word_notZeros (u : ℕ) (h2 : 2 ≤ u) (h : u + 1 ≤ 1022) : ¬TotalOrder.OppositeZeros 8 23 (word u) (word (u + 1)) := by
  have key : ∀ u : Fin 1020, ¬((((word (u.val + 2)).extractLsb' 23 8).toNat = 0
      ∧ ((word (u.val + 2)).extractLsb' 0 23).toNat = 0) ∧ (((word (u.val + 3)).extractLsb' 23 8).toNat = 0
      ∧ ((word (u.val + 3)).extractLsb' 0 23).toNat = 0)) := by decide +kernel
  have := key ⟨u - 2, by omega⟩
  simp only [Nat.sub_add_cancel h2, show u - 2 + 3 = u + 1 by omega] at this
  exact fun hz => this ⟨hz.1, hz.2.1⟩

/-- and their order keys rise. -/
theorem word_key_lt (u : ℕ) (h2 : 2 ≤ u) (h : u + 1 ≤ 1022) :
    (totalOrderKey (word u)).toNat < (totalOrderKey (word (u + 1))).toNat := by
  have key : ∀ u : Fin 1020, (totalOrderKey (word (u.val + 2))).toNat < (totalOrderKey (word (u.val + 3))).toNat := by
    decide +kernel
  have := key ⟨u - 2, by omega⟩
  simp only [Nat.sub_add_cancel h2, show u - 2 + 3 = u + 1 by omega] at this
  exact this

/-- The two lowest words are NaNs, which denote the bottom. -/
theorem lev_low (u : ℕ) (h : u < 2) : lev u = ⊥ := by
  have key : ∀ u : Fin 2, ((word u.val).extractLsb' 23 8).toNat = 255 ∧ ((word u.val).extractLsb' 0 23).toNat ≠ 0 := by
    decide +kernel
  have := key ⟨u, h⟩
  unfold lev Ideal.ofBits Ideal.ieee
  simp only [this.1, this.2]
  rfl

/-- The highest word but one denotes the top. -/
theorem lev_top : lev 1022 = ⊤ := by
  have e : ((word 1022).extractLsb' 23 8).toNat = 255 := by decide +kernel
  have f : ((word 1022).extractLsb' 0 23).toNat = 0 := by decide +kernel
  have s : ((word 1022).extractLsb' (8 + 23) 1 == 1#1) = false := by decide +kernel
  unfold lev Ideal.ofBits Ideal.ieee
  simp only [e, f, s]
  rfl

/-- The highest word is a NaN again. -/
theorem lev_last : lev 1023 = ⊥ := by
  have e : ((word 1023).extractLsb' 23 8).toNat = 255 := by decide +kernel
  have f : ((word 1023).extractLsb' 0 23).toNat ≠ 0 := by decide +kernel
  unfold lev Ideal.ofBits Ideal.ieee
  simp only [e, f]
  rfl

/-- One level is at most the next, up to 1022. -/
theorem lev_step (u : ℕ) (h : u + 1 ≤ 1022) : lev u ≤ lev (u + 1) := by
  by_cases h2 : u < 2
  · rw [lev_low u h2]; exact bot_le
  · exact ((TotalOrder.lt_iff (e := 8) (m := 23) (word_notNaN u (by omega) (by omega)) (word_notNaN (u + 1) (by omega) h)
      (word_notZeros u (by omega) h)).mp (word_key_lt u (by omega) h)).le

/-- The levels rise up to 1022. -/
theorem lev_mono (u v : ℕ) (h : u ≤ v) (hv : v ≤ 1022) : lev u ≤ lev v := by
  induction v, h using Nat.le_induction with
  | base => exact le_rfl
  | succ n hn ih => exact (ih (by omega)).trans (lev_step n hv)

/-- The class whose ten leading bits are `j`. -/
def cls (j : ℕ) : ℕ := if j < 512 then 512 + j else 1023 - j

/-- Every class is the class of some ten leading bits. -/
theorem cls_cls (u : ℕ) (h : u < 1024) : cls (if 512 ≤ u then u - 512 else 1023 - u) = u := by
  unfold cls
  split <;> split <;> omega

/-- Every class but the last is at most 1022, or its level is the bottom. -/
theorem cls_le (j : ℕ) (h : j < 1024) : cls j ≤ 1022 ∨ lev (cls j) = ⊥ := by
  by_cases hj : cls j = 1023
  · exact .inr (by rw [hj, lev_last])
  · left
    unfold cls at *
    split at hj <;> split <;> omega

/-! ## The search, on numbers -/

/-- One step: add `b` where the property still holds. -/
def pick (P : ℕ → Prop) [DecidablePred P] (b r : ℕ) : ℕ := if P (r + b) then r + b else r

/-- What the search knows of `r` when the bits below `b` are still to be settled. -/
structure Settled (P : ℕ → Prop) (b r : ℕ) : Prop where
  mod : r % b = 0
  le : r + b ≤ 1024
  lt : r ≤ 1022
  holds : P r
  most : ∀ v ≤ 1022, P v → v < r + b

/-- A step settles one more bit, for a property that passes to lower numbers and fails at 1022. -/
theorem Settled.pick {P : ℕ → Prop} [DecidablePred P] (hP : ∀ u v, u ≤ v → v ≤ 1022 → P v → P u) (hno : ¬P 1022)
    {b r : ℕ} (hb : 0 < b) (h : Settled P (2 * b) r) : Settled P b (pick P b r) := by
  have hm : r % b = 0 := by
    obtain ⟨k, hk⟩ := Nat.dvd_of_mod_eq_zero h.mod
    rw [hk, Nat.mul_comm 2 b, Nat.mul_assoc]
    exact Nat.mul_mod_right _ _
  have hle := h.le
  have hlt := h.lt
  unfold Level.pick
  split
  case isTrue hc =>
    refine ⟨by rw [Nat.add_mod_right]; exact hm, by omega, ?_, hc, fun v hv hp => by have := h.most v hv hp; omega⟩
    by_contra hgt
    have : r = 1022 := by omega
    exact hno (this ▸ h.holds)
  case isFalse hc =>
    refine ⟨hm, by omega, hlt, h.holds, fun v hv hp => ?_⟩
    by_contra hgt
    exact hc (hP (r + b) v (by omega) hv hp)

/-- The ten steps. -/
def find (P : ℕ → Prop) [DecidablePred P] : ℕ :=
  pick P 1 (pick P 2 (pick P 4 (pick P 8 (pick P 16 (pick P 32 (pick P 64 (pick P 128 (pick P 256 (pick P 512 0)))))))))

/-- Before the first step. -/
theorem settled_zero {P : ℕ → Prop} (h0 : P 0) : Settled P 1024 0 :=
  ⟨rfl, by omega, by omega, h0, fun v hv _ => by omega⟩

end Cert.Proof.Level

end
-- ==== Proof.Order.lean ====
/-
  The threshold of one row, two ways. The reference sorts the row, takes entry 205 of the ascending order (the 819th
  largest of 1024) and rounds it down to its class's least float. The search finds the greatest class whose least float
  at least 819 entries reach. Both give the same float.
-/
module

public import proofs.«01_k».proof.Proof.Levels
public import proofs.«01_k».proof.Proof.Gen.ReferenceIdeal
public import Idealize.ShloMosaic.Lib.SortFacts
public import Idealize.ShloMosaic.Lib.Pointwise

@[expose] public section

set_option maxRecDepth 16384

noncomputable section

namespace Cert.Proof.Level

open Idealize.ShloMosaic

/-- How many entries reach `x`. -/
def hits (a : Fin 1024 → EReal) (x : EReal) : ℕ := (Finset.univ.filter fun m => x ≤ a m).card

/-- The count does not depend on the order of the entries. -/
theorem hits_comp (a : Fin 1024 → EReal) (e : Fin 1024 ≃ Fin 1024) (x : EReal) : hits (fun m => a (e m)) x = hits a x := by
  unfold hits
  refine Finset.card_bij (fun m _ => e m) (fun m h => ?_) (fun m _ m' _ h => e.injective h) (fun m h => ⟨e.symm m, ?_, ?_⟩)
  · simpa using h
  · simpa using h
  · simp

/-- The property the search tests. -/
abbrev Enough (a : Fin 1024 → EReal) (u : ℕ) : Prop := 819 ≤ hits a (lev u)

/-- Fewer entries reach a higher level. -/
theorem enough_anti (a : Fin 1024 → EReal) (u v : ℕ) (h : u ≤ v) (hv : v ≤ 1022) (he : Enough a v) : Enough a u :=
  he.trans (Finset.card_le_card fun m hm => by
    simp only [Finset.mem_filter, Finset.mem_univ, true_and] at hm ⊢
    exact (lev_mono u v h hv).trans hm)

/-- Every entry reaches the lowest level, -/
theorem enough_zero (a : Fin 1024 → EReal) : Enough a 0 := by
  unfold Enough hits
  rw [lev_low 0 (by omega), Finset.filter_true_of_mem (fun m _ => bot_le), Finset.card_univ, Fintype.card_fin]
  omega

/-- and no finite entry the highest. -/
theorem not_enough_top (a : Fin 1024 → EReal) (ha : ∀ m, a m ≠ ⊤) : ¬Enough a 1022 := by
  unfold Enough hits
  rw [lev_top, Finset.filter_false_of_mem (fun m _ h => ha m (top_le_iff.mp h))]
  simp

/-- The search ends at the greatest class that enough entries reach. -/
theorem settled_find (a : Fin 1024 → EReal) (ha : ∀ m, a m ≠ ⊤) : Settled (Enough a) 1 (find (Enough a)) := by
  have hP := enough_anti a
  have hn := not_enough_top a ha
  have h := (settled_zero (enough_zero a)).pick (b := 512) hP hn (by omega)
  have h := h.pick (b := 256) hP hn (by omega)
  have h := h.pick (b := 128) hP hn (by omega)
  have h := h.pick (b := 64) hP hn (by omega)
  have h := h.pick (b := 32) hP hn (by omega)
  have h := h.pick (b := 16) hP hn (by omega)
  have h := h.pick (b := 8) hP hn (by omega)
  have h := h.pick (b := 4) hP hn (by omega)
  have h := h.pick (b := 2) hP hn (by omega)
  exact h.pick (b := 1) hP hn (by omega)

/-- The comparator the reference sorts by says whether one number is below the other. -/
theorem comparator_apply (x y : EReal) :
    (Cert.ReferenceIdeal.comparator_f32_d3 (F := Ideal) x y == 1#1) = decide (x < y) := by
  have hz : Ideal.ofBits .f32 0x00000000#32 = 0 := Ideal.ofBits_zero_f32
  have key : ∀ z : EReal, Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32))
        (FloatOps.ofBits (F := Ideal) .f32 0x00000000#32) z) = z := by
    intro z
    show Scalar.select (BitVec.ofBool (decide (z ≠ z))) _ (Scalar.select (BitVec.ofBool (decide (z = Ideal.ofBits .f32 0x00000000#32)))
      (Ideal.ofBits .f32 0x00000000#32) z) = z
    rw [hz]
    simp only [ne_eq, not_true_eq_false, decide_false]
    show Scalar.select (BitVec.ofBool (decide (z = 0))) (0 : EReal) z = z
    by_cases h : z = 0
    · subst h; simp [Scalar.select]
    · simp [Scalar.select, h]
  unfold Cert.ReferenceIdeal.comparator_f32_d3
  simp only [key]
  show (BitVec.ofBool (decide (x < y)) == 1#1) = decide (x < y)
  by_cases h : x < y <;> simp [h]

/-- The order one row is sorted in. -/
def below {n : ℕ} (a : Fin n → EReal) (k k' : Fin n) : Bool := decide (a k < a k')

/-- Sorted, a row ascends. -/
theorem sorted_mono {n : ℕ} (a : Fin n → EReal) (i j : Fin n) (hij : i ≤ j) :
    a (sortedFrom (below a) i) ≤ a (sortedFrom (below a) j) := by
  rcases hij.lt_or_eq with h | h
  · have := sortedFrom_noInversion (below a) (below a)
      (fun p q h => by unfold below at h ⊢; simp only [decide_eq_true_eq, decide_eq_false_iff_not] at h ⊢; exact h.asymm)
      (fun p q h => h) (fun p q r h1 h2 => by
        unfold below at h1 h2 ⊢; simp only [decide_eq_false_iff_not, not_lt] at h1 h2 ⊢; exact h2.trans h1) i j h
    unfold below at this
    simp only [decide_eq_false_iff_not, not_lt] at this
    exact this
  · rw [h]

/-- As many entries of the sorted row reach `x` as of the row itself. -/
theorem card_sorted {n : ℕ} (a : Fin n → EReal) (x : EReal) :
    (Finset.univ.filter fun k => x ≤ a (sortedFrom (below a) k)).card = (Finset.univ.filter fun k => x ≤ a k).card := by
  refine Finset.card_bij (fun k _ => sortedFrom (below a) k) (fun m h => ?_)
    (fun m _ m' _ h => sortedFrom_injective _ h) (fun m h => ?_)
  · simpa using h
  · obtain ⟨k, hk⟩ := sortedFrom_surjective (below a) m
    exact ⟨k, by simp only [Finset.mem_filter, Finset.mem_univ, true_and] at h ⊢; rw [hk]; exact h, hk⟩

/-- Entry `p` of the ascending order is at least `x` exactly when `n - p` entries are. -/
theorem entry_iff {n : ℕ} (a : Fin n → EReal) (x : EReal) (p : Fin n) :
    n - p.val ≤ (Finset.univ.filter fun k => x ≤ a k).card ↔ x ≤ a (sortedFrom (below a) p) := by
  rw [← card_sorted]
  constructor
  · intro h
    by_contra hx
    have hsub : (Finset.univ.filter fun k => x ≤ a (sortedFrom (below a) k)) ⊆ Finset.Ioi p := fun k hk => by
      simp only [Finset.mem_filter, Finset.mem_univ, true_and, Finset.mem_Ioi] at hk ⊢
      by_contra hle
      exact hx (hk.trans (sorted_mono a k p (not_lt.mp hle)))
    have hcard := Finset.card_le_card hsub
    rw [Fin.card_Ioi] at hcard
    have := p.isLt
    omega
  · intro h
    have hsub : Finset.Ici p ⊆ (Finset.univ.filter fun k => x ≤ a (sortedFrom (below a) k)) := fun k hk => by
      simp only [Finset.mem_filter, Finset.mem_univ, true_and, Finset.mem_Ici] at hk ⊢
      exact h.trans (sorted_mono a p k hk)
    have hcard := Finset.card_le_card hsub
    rw [Fin.card_Ici] at hcard
    exact hcard

/-- Entry 205 of the ascending order is at least `x` exactly when 819 entries are. -/
theorem kth_iff (a : Fin 1024 → EReal) (x : EReal) (p : Fin 1024) (hp : p.val = 205) :
    819 ≤ hits a x ↔ x ≤ a (sortedFrom (below a) p) := by
  have h := entry_iff a x p
  rw [hp] at h
  exact h

/-- Rounding the 819th largest entry down to a level gives the level the search finds. -/
theorem fold_eq_lev (a : Fin 1024 → EReal) (ha : ∀ m, a m ≠ ⊤) (κ : EReal) (hκ : ∀ x, 819 ≤ hits a x ↔ x ≤ κ) :
    (Finset.univ.fold max ⊥ fun j : Fin 1024 => if lev (cls j.val) ≤ κ then lev (cls j.val) else ⊥) = lev (find (Enough a)) := by
  have hs := settled_find a ha
  refine le_antisymm ((Finset.fold_max_le _).mpr ⟨bot_le, fun j _ => ?_⟩) ((Finset.le_fold_max _).mpr (.inr ?_))
  · split
    case isFalse => exact bot_le
    case isTrue h =>
      rcases cls_le j.val j.isLt with hc | hc
      · exact lev_mono _ _ (Nat.lt_succ_iff.mp (hs.most _ hc ((hκ _).mpr h))) hs.lt
      · rw [hc]; exact bot_le
  · refine ⟨⟨if 512 ≤ find (Enough a) then find (Enough a) - 512 else 1023 - find (Enough a), ?_⟩, Finset.mem_univ _, ?_⟩
    · have := hs.lt
      split <;> omega
    · rw [cls_cls _ (by have := hs.lt; omega), if_pos ((hκ _).mp hs.holds)]

/-- Some entry reaches the level the search finds. -/
theorem exists_le (a : Fin 1024 → EReal) (ha : ∀ m, a m ≠ ⊤) : ∃ m, lev (find (Enough a)) ≤ a m := by
  have h := (settled_find a ha).holds
  unfold Enough hits at h
  obtain ⟨m, hm⟩ := Finset.card_pos.mp (by omega : 0 < (Finset.univ.filter fun m => lev (find fun u => 819 ≤ (Finset.univ.filter fun m => lev u ≤ a m).card) ≤ a m).card)
  exact ⟨m, (Finset.mem_filter.mp hm).2⟩

end Cert.Proof.Level

end
-- ==== Proof.RefRead.lean ====
/-
  The reference read at an index: its convolution rows, its similarities, its masked entries and its softmax weights.
-/
module

public import proofs.«01_k».proof.Proof.Gen.ReferenceIdeal.Run
public import proofs.«01_k».proof.Proof.Sim
public import proofs.«01_k».proof.Proof.Order
public import Idealize.ShloMosaic.Lib.Pointwise
public import Idealize.ShloMosaic.Lib.Tactic.CleanTypes

@[expose] public section

set_option maxRecDepth 16384

noncomputable section

namespace Cert.Proof.RI

open Cert.ReferenceIdeal Cert.ReferenceIdeal.Gen Cert.ReferenceIdeal.Value
open Idealize.ShloMosaic

variable (V : Valuation τ sig (Elt Ideal)) (b : Fin 2) (h : Fin 8)

/-- The input, an entry at a time, -/
def arg (i : S2x384x16x16.Idx) : EReal := (V (Proc.devRef .tc main_arg0) : FVec Ideal S2x384x16x16 .f32) i

/-- as the images of one batch element and head, -/
def xs (g : Fin 4) (c : Fin 12) (p : Fin 256) : EReal :=
  arg V (ix4 b ⟨g.val * 96 + (h.val * 12 + c.val), by omega⟩ ⟨p.val / 16, by omega⟩ ⟨p.val % 16, by omega⟩)

/-- the projection weights, -/
def wq (o : Fin 12) (g : Fin 4) : EReal := (V (Proc.devRef .tc main_arg1) : FVec Ideal S12x4 .f32) (ix2 o g)

/-- the convolution weights, -/
def wd (o : Fin 12) (u v : Fin 3) : EReal := (V (Proc.devRef .tc main_arg2) : FVec Ideal S12x1x3x3 .f32) (ix4 o 0 u v)

/-- the temperature, -/
def tp : EReal := (V (Proc.devRef .tc main_arg3) : FVec Ideal S1x8x1x1 .f32) (ix4 0 h 0 0)

/-- and the convolution's rows. -/
abbrev row (o c : Fin 12) (p : Fin 256) : EReal := Conv.row (xs V b h) (wq V) (wd V) o c p

/-- The padded projection at the neighbour's place is the neighbour. -/
theorem v3_apply (o c : Fin 12) (p : Fin 256) (u v : ℕ) (C : Fin 96) (P Q : Fin 18) (hC : C.val = h.val * 12 + c.val)
    (hP : P.val = p.val / 16 + u) (hQ : Q.val = p.val % 16 + v) :
    (res_main_v3 V : FVec Ideal S2x12x96x18x18 .f32) (ix5 b o C P Q)
      = Conv.near (fun c p => Conv.mix (fun g => xs V b h g c p) (wq V o)) c p u v := by
  have hp := p.isLt
  have e : (res_main_v3 V : FVec Ideal S2x12x96x18x18 .f32) (ix5 b o C P Q)
      = if hh : (1 ≤ P.val ∧ P.val - 1 < 16) ∧ 1 ≤ Q.val ∧ Q.val - 1 < 16 then
          ∑ x : Fin 4, wq V o x * arg V (ix4 b ⟨x.val * 96 + C.val, by omega⟩ ⟨P.val - 1, by omega⟩ ⟨Q.val - 1, by omega⟩)
        else FloatOps.sitofp (F := Ideal) .f32 0#32 := by
    unfold res_main_v3
    clean_types
    pointwise
    rfl
  rw [e]
  unfold Conv.near
  by_cases hn : Conv.Near p.val u v
  · rw [dif_pos hn, dif_pos (by rw [hP, hQ]; exact hn), Fin.sum_univ_four]
    have term : ∀ g : Fin 4, wq V o g * arg V (ix4 b ⟨g.val * 96 + C.val, by omega⟩ ⟨P.val - 1, by omega⟩ ⟨Q.val - 1, by omega⟩)
        = xs V b h g c ⟨(p.val / 16 + u - 1) * 16 + (p.val % 16 + v - 1), by omega⟩ * wq V o g := by
      intro g
      have e1 : (⟨g.val * 96 + C.val, by omega⟩ : Fin 384) = ⟨g.val * 96 + (h.val * 12 + c.val), by omega⟩ := Fin.ext (by simp only; omega)
      have e2 : (⟨P.val - 1, by omega⟩ : Fin 16) = ⟨((p.val / 16 + u - 1) * 16 + (p.val % 16 + v - 1)) / 16, by omega⟩ := Fin.ext (by simp only; omega)
      have e3 : (⟨Q.val - 1, by omega⟩ : Fin 16) = ⟨((p.val / 16 + u - 1) * 16 + (p.val % 16 + v - 1)) % 16, by omega⟩ := Fin.ext (by simp only; omega)
      rw [e1, e2, e3]
      exact mul_comm (wq V o g) (xs V b h g c ⟨(p.val / 16 + u - 1) * 16 + (p.val % 16 + v - 1), by omega⟩)
    rw [term 0, term 1, term 2, term 3]
    rfl
  · rw [dif_neg hn, dif_neg (by rw [hP, hQ]; exact hn)]
    show (((0#32 : BitVec 32).toInt : ℝ) : EReal) = 0
    simp

/-- The reference's convolution is the convolution. -/
theorem v50_apply (o c : Fin 12) (p : Fin 256) (C : Fin 96) (hC : C.val = h.val * 12 + c.val) (P Q : Fin 16)
    (hP : P.val = p.val / 16) (hQ : Q.val = p.val % 16) :
    (res_main_v50 V : FVec Ideal S2x12x96x16x16 .f32) (ix5 b o C P Q) = row V b h o c p := by
  unfold res_main_v50 res_main_v4
  clean_types
  pointwise
  unfold row Conv.row Conv.conv
  rw [v3_apply V b h o c p 0 0 C _ _ hC (by simp only; omega) (by simp only; omega),
    v3_apply V b h o c p 0 1 C _ _ hC (by simp only; omega) (by simp only; omega),
    v3_apply V b h o c p 0 2 C _ _ hC (by simp only; omega) (by simp only; omega),
    v3_apply V b h o c p 1 0 C _ _ hC (by simp only; omega) (by simp only; omega),
    v3_apply V b h o c p 1 1 C _ _ hC (by simp only; omega) (by simp only; omega),
    v3_apply V b h o c p 1 2 C _ _ hC (by simp only; omega) (by simp only; omega),
    v3_apply V b h o c p 2 0 C _ _ hC (by simp only; omega) (by simp only; omega),
    v3_apply V b h o c p 2 1 C _ _ hC (by simp only; omega) (by simp only; omega),
    v3_apply V b h o c p 2 2 C _ _ hC (by simp only; omega) (by simp only; omega)]
  rfl

/-- The reference's place for the position the kernel counts as `n`: the group runs fastest, not slowest. -/
def pos : Fin 1024 ≃ Fin 1024 where
  toFun n := ⟨n.val % 256 * 4 + n.val / 256, by omega⟩
  invFun n := ⟨n.val % 4 * 256 + n.val / 4, by omega⟩
  left_inv n := Fin.ext (by simp only; omega)
  right_inv n := Fin.ext (by simp only; omega)

/-- The position's number. -/
theorem pos_val (n : Fin 1024) : (pos n).val = n.val % 256 * 4 + n.val / 256 := rfl

/-- Its queries, -/
theorem v56_apply (c : Fin 12) (n : Fin 1024) : (res_main_v56 V : FVec Ideal S2x8x12x1024 .f32) (ix4 b h c (pos n))
    = row V b h ⟨n.val / 256, by omega⟩ c ⟨n.val % 256, by omega⟩ := by
  have hn := pos_val n
  have h4 : (pos n).val / 4 = n.val % 256 := by omega
  unfold res_main_v56
  clean_types
  pointwise
  have ho : (⟨(pos n).val % 4, by omega⟩ : Fin 12) = ⟨n.val / 256, by omega⟩ := Fin.ext (by simp only; omega)
  rw [ho]
  exact v50_apply V b h _ c _ _ rfl _ _ (by simp only; omega) (by simp only; omega)

/-- its keys, -/
theorem v59_apply (c : Fin 12) (n : Fin 1024) : (res_main_v59 V : FVec Ideal S2x8x12x1024 .f32) (ix4 b h c (pos n))
    = row V b h ⟨4 + n.val / 256, by omega⟩ c ⟨n.val % 256, by omega⟩ := by
  have hn := pos_val n
  have h4 : (pos n).val / 4 = n.val % 256 := by omega
  unfold res_main_v59
  clean_types
  pointwise
  have ho : (⟨4 + (pos n).val % 4, by omega⟩ : Fin 12) = ⟨4 + n.val / 256, by omega⟩ := Fin.ext (by simp only; omega)
  rw [ho]
  exact v50_apply V b h _ c _ _ rfl _ _ (by simp only; omega) (by simp only; omega)

/-- and its values. -/
def vals : FVec Ideal S2x8x12x1024 .f32 :=
  shapeCast _ (transpose S2x8x12x16x16x4 [0, 2, 3, 4, 5, 1] (shapeCast _ (extractStridedSlice S2x4x96x16x16 ![0, 8, 0, 0, 0] (res_main_v50 V) slices_S2x12x96x16x16_S2x4x96x16x16_0_8_0_0_0) shapeCasts_S2x4x96x16x16_S2x4x8x12x16x16) transposes_S2x4x8x12x16x16_S2x8x12x16x16x4_0_2_3_4_5_1) shapeCasts_S2x8x12x16x16x4_S2x8x12x1024

/-- The values at a position, counted as the kernel counts it: a row of the convolution. -/
theorem vals_apply (c : Fin 12) (n : Fin 1024) : vals V (ix4 b h c (pos n))
    = row V b h ⟨8 + n.val / 256, by omega⟩ c ⟨n.val % 256, by omega⟩ := by
  have hn := pos_val n
  have h4 : (pos n).val / 4 = n.val % 256 := by omega
  unfold vals
  clean_types
  pointwise
  have ho : (⟨8 + (pos n).val % 4, by omega⟩ : Fin 12) = ⟨8 + n.val / 256, by omega⟩ := Fin.ext (by simp only; omega)
  rw [ho]
  exact v50_apply V b h _ c _ _ rfl _ _ (by simp only; omega) (by simp only; omega)

end Cert.Proof.RI

end
-- ==== Proof.RefSoft.lean ====
/-
  The reference's attention read at an index: the similarities, the entries below the threshold masked, the softmax's
  weights and the weighted values.
-/
module

public import proofs.«01_k».proof.Proof.RefRead

@[expose] public section

set_option maxRecDepth 16384

noncomputable section

namespace Cert.Proof.RI

open Cert.ReferenceIdeal Cert.ReferenceIdeal.Gen Cert.ReferenceIdeal.Value
open Idealize.ShloMosaic

variable (V : Valuation τ sig (Elt Ideal)) (b : Fin 2) (h : Fin 8)

/-- The similarities are the scaled products of the normalised queries and keys. -/
theorem v81_apply (n m : Fin 1024) : (res_main_v81 V : FVec Ideal S2x8x1024x1024 .f32) (ix4 b h n m)
    = (∑ c : Fin 12, Ideal.div ((res_main_v56 V : FVec Ideal S2x8x12x1024 .f32) (ix4 b h c n)) (Sim.nrm fun x => (res_main_v56 V : FVec Ideal S2x8x12x1024 .f32) (ix4 b h c x))
      * Ideal.div ((res_main_v59 V : FVec Ideal S2x8x12x1024 .f32) (ix4 b h c m)) (Sim.nrm fun x => (res_main_v59 V : FVec Ideal S2x8x12x1024 .f32) (ix4 b h c x))) * tp V h := by
  unfold res_main_v81
  generalize res_main_v56 V = q
  generalize res_main_v59 V = k
  clean_types
  pointwise
  rfl

/-- The candidates of the rounding are the levels. -/
theorem v94_apply (j : Fin 1024) : (res_main_v94 V : FVec Ideal S1024 .f32) (ix1 j) = Level.lev (Level.cls j.val) := by
  unfold res_main_v94 res_main_v84
  clean_types
  pointwise
  have key : ∀ j : Fin 1024, Scalar.select (IntOp.cmpi .slt (BitVec.ofNat 32 j.val) 512#32)
        (IntOp.shli .host (BitVec.ofNat 32 j.val) 22#32)
        (IntOp.ori (IntOp.shli .host (BitVec.ofNat 32 j.val) 22#32) 4194303#32) = Level.word (Level.cls j.val) := by
    decide +kernel
  rw [key j]
  rfl

/-- The bits of minus infinity denote the bottom. -/
theorem bits_bot : Ideal.ofBits .f32 0xFF800000#32 = ⊥ := by
  have e : ((0xFF800000#32).extractLsb' 23 8).toNat = 255 := by decide +kernel
  have f : ((0xFF800000#32).extractLsb' 0 23).toNat = 0 := by decide +kernel
  have s : ((0xFF800000#32).extractLsb' (8 + 23) 1 == 1#1) = true := by decide +kernel
  unfold Ideal.ofBits Ideal.ieee
  simp only [e, f, s]
  rfl

/-- The greatest entries of the rows. -/
abbrev rowMax (x : FVec Ideal S2x8x1024x1024 .f32) : FVec Ideal S2x8x1024 .f32 :=
  Host.reduce FloatOps.maximumf x (constant S_ .f32 0xFF800000#32) reducesTo_S2x8x1024x1024_S2x8x1024_d3 h_S_

/-- They are the maxima over the rows. -/
theorem rowMax_apply (x : FVec Ideal S2x8x1024x1024 .f32) (n : Fin 1024) :
    rowMax x (ix3 b h n) = Finset.univ.fold max ⊥ fun m => x (ix4 b h n m) := by
  rw [rowMax, Host.reduce_eq_fold, ← bits_bot]
  pointwise

/-- The levels that entry 205 of a sorted row reaches; the others are masked. -/
def cands (S : FVec Ideal S2x8x1024x1024 .f32) (L : FVec Ideal S1024 .f32) : FVec Ideal S2x8x1024x1024 .f32 :=
  select (cmpf .ole (broadcastInDim S2x8x1024x1024 ![0, 1, 2, 3] bcast_S1x1x1x1024_S2x8x1024x1024_0_1_2_3 (broadcastInDim S1x1x1x1024 ![3] bcast_S1024_S1x1x1x1024_3 L)) (broadcastInDim S2x8x1024x1024 ![0, 1, 2, 3] bcast_S2x8x1024x1_S2x8x1024x1024_0_1_2_3 (extractStridedSlice S2x8x1024x1 ![0, 0, 0, 205] S slices_S2x8x1024x1024_S2x8x1024x1_0_0_0_205))) (broadcastInDim S2x8x1024x1024 ![3] bcast_S1024_S2x8x1024x1024_3 L) (broadcastInDim S2x8x1024x1024 ![] bcast_S_S2x8x1024x1024 (id (constant S_ .f32 0xFF800000#32)))

/-- The candidates at an index. -/
theorem cands_apply (S : FVec Ideal S2x8x1024x1024 .f32) (L : FVec Ideal S1024 .f32) (n j : Fin 1024) :
    cands S L (ix4 b h n j) = if L (ix1 j) ≤ S (ix4 b h n 205) then L (ix1 j) else ⊥ := by
  unfold cands
  rw [← bits_bot]
  pointwise
  rfl

/-- The entries that their row's threshold does not exceed; the others are masked. -/
def masked (A : FVec Ideal S2x8x1024x1024 .f32) (T : FVec Ideal S2x8x1024 .f32) : FVec Ideal S2x8x1024x1024 .f32 :=
  select (cmpf .oge A (broadcastInDim S2x8x1024x1024 ![0, 1, 2, 3] bcast_S2x8x1024x1_S2x8x1024x1024_0_1_2_3 (broadcastInDim S2x8x1024x1 ![0, 1, 2] bcast_S2x8x1024_S2x8x1024x1_0_1_2 T))) A (broadcastInDim S2x8x1024x1024 ![] bcast_S_S2x8x1024x1024 (id (constant S_ .f32 0xFF800000#32)))

/-- The masked entries at an index. -/
theorem masked_apply (A : FVec Ideal S2x8x1024x1024 .f32) (T : FVec Ideal S2x8x1024 .f32) (n m : Fin 1024) :
    masked A T (ix4 b h n m) = if T (ix3 b h n) ≤ A (ix4 b h n m) then A (ix4 b h n m) else ⊥ := by
  unfold masked
  rw [← bits_bot]
  pointwise
  rfl

/-- The exponentials of the entries less their row's greatest. -/
def weights (M : FVec Ideal S2x8x1024x1024 .f32) : FVec Ideal S2x8x1024x1024 .f32 :=
  Host.exp (subf M (broadcastInDim S2x8x1024x1024 ![0, 1, 2, 3] bcast_S2x8x1024x1_S2x8x1024x1024_0_1_2_3 (broadcastInDim S2x8x1024x1 ![0, 1, 2] bcast_S2x8x1024_S2x8x1024x1_0_1_2 (rowMax M))))

/-- The exponentials at an index. -/
theorem weights_apply (M : FVec Ideal S2x8x1024x1024 .f32) (n m : Fin 1024) : weights M (ix4 b h n m)
    = Ideal.exp (M (ix4 b h n m) - Finset.univ.fold max ⊥ fun m => M (ix4 b h n m)) := by
  unfold weights
  rw [← rowMax_apply]
  generalize rowMax M = R
  pointwise

/-- A row sorted is the row read along the sorting order. -/
theorem sort_apply (x : FVec Ideal S2x8x1024x1024 .f32) (n : Fin 1024) (p : Fin 1024) :
    (Host.sort S2x8x1024x1024 3 comparator_f32_d3 x : FVec Ideal S2x8x1024x1024 .f32) (ix4 b h n p)
      = x (ix4 b h n (sortedFrom (Level.below fun m => x (ix4 b h n m)) p)) := by
  have hd : 3 < S2x8x1024x1024.rank := by decide
  have al : ∀ k : Fin 1024, (ix4 b h n p).along ⟨3, hd⟩ k = ix4 b h n k := by
    intro k
    funext i
    fin_cases i <;> rfl
  have hb : (fun k k' : Fin 1024 => comparator_f32_d3 (F := Ideal) (x ((ix4 b h n p).along ⟨3, hd⟩ k))
      (x ((ix4 b h n p).along ⟨3, hd⟩ k')) == 1#1) = Level.below fun m => x (ix4 b h n m) := by
    funext k k'
    rw [al, al, Level.comparator_apply]
    rfl
  unfold Host.sort
  rw [dif_pos hd]
  show x ((ix4 b h n p).along ⟨3, hd⟩ (sortedFrom (fun k k' : Fin 1024 => comparator_f32_d3 (F := Ideal)
    (x ((ix4 b h n p).along ⟨3, hd⟩ k)) (x ((ix4 b h n p).along ⟨3, hd⟩ k')) == 1#1) p)) = _
  rw [hb]
  exact congrArg x (al _)

/-- The masked similarities: an entry stays when it reaches the level that 819 entries of its row reach. -/
theorem v104_apply (n m : Fin 1024) (a : Fin 1024 → EReal)
    (hA : ∀ m, (res_main_v81 V : FVec Ideal S2x8x1024x1024 .f32) (ix4 b h n m) = a m) (ha : ∀ m, a m ≠ ⊤) :
    (res_main_v104 V : FVec Ideal S2x8x1024x1024 .f32) (ix4 b h n m)
      = if Level.lev (Level.find (Level.Enough a)) ≤ a m then a m else ⊥ := by
  have e : (res_main_v104 V : FVec Ideal S2x8x1024x1024 .f32) = masked (res_main_v81 V)
      (rowMax (cands (Host.sort S2x8x1024x1024 3 comparator_f32_d3 (res_main_v81 V)) (res_main_v94 V))) := rfl
  have hL := v94_apply V
  rw [e]
  generalize (res_main_v94 V : FVec Ideal S1024 .f32) = L at hL ⊢
  generalize (res_main_v81 V : FVec Ideal S2x8x1024x1024 .f32) = A at hA ⊢
  have hA' : (fun m => A (ix4 b h n m)) = a := funext hA
  rw [masked_apply, rowMax_apply, hA m]
  simp only [cands_apply, sort_apply, hL, hA']
  rw [hA, Level.fold_eq_lev a ha _ fun x => Level.kth_iff a x 205 rfl]

/-- The softmax's weights before the division. -/
theorem v109_apply (n m : Fin 1024) (a : Fin 1024 → EReal)
    (hA : ∀ m, (res_main_v81 V : FVec Ideal S2x8x1024x1024 .f32) (ix4 b h n m) = a m) (ha : ∀ m, a m ≠ ⊤) :
    (res_main_v109 V : FVec Ideal S2x8x1024x1024 .f32) (ix4 b h n m)
      = Ideal.exp ((if Level.lev (Level.find (Level.Enough a)) ≤ a m then a m else ⊥)
        - Finset.univ.fold max ⊥ fun m => if Level.lev (Level.find (Level.Enough a)) ≤ a m then a m else ⊥) := by
  have e : (res_main_v109 V : FVec Ideal S2x8x1024x1024 .f32) = weights (res_main_v104 V) := rfl
  have hM := fun m => v104_apply V b h n m a hA ha
  rw [e]
  generalize (res_main_v104 V : FVec Ideal S2x8x1024x1024 .f32) = M at hM ⊢
  rw [weights_apply]
  simp only [hM]

/-- Values weighted by weights divided by their sum. -/
def mean (v : FVec Ideal S2x8x12x1024 .f32) (E : FVec Ideal S2x8x1024x1024 .f32) : FVec Ideal S2x8x12x1024 .f32 :=
  Host.dotGeneral dot_S2x8x12x1024_S2x8x1024x1024_S2x8x12x1024_3_3_2_2_01_01 none v (Host.divf E (broadcastInDim S2x8x1024x1024 ![0, 1, 2, 3] bcast_S2x8x1024x1_S2x8x1024x1024_0_1_2_3 (broadcastInDim S2x8x1024x1 ![0, 1, 2] bcast_S2x8x1024_S2x8x1024x1_0_1_2 (Host.reduceAdd E (constant S_ .f32 0x00000000#32) reducesTo_S2x8x1024x1024_S2x8x1024_d3 h_S_))))

/-- The weighted values at an index. -/
theorem mean_apply (v : FVec Ideal S2x8x12x1024 .f32) (E : FVec Ideal S2x8x1024x1024 .f32) (c : Fin 12) (n : Fin 1024) :
    mean v E (ix4 b h c n) = ∑ m, v (ix4 b h c m) * Ideal.div (E (ix4 b h n m)) (∑ m', E (ix4 b h n m')) := by
  unfold mean
  pointwise

end Cert.Proof.RI

end
-- ==== Proof.Search.lean ====
/-
  The kernel's search, read column by column: the counts by halves are counts, the bit patterns tried are the levels,
  and the ten steps end at the class the search on numbers ends at.
-/
module

public import proofs.«01_k».proof.Proof.Body
public import proofs.«01_k».proof.Proof.Order
public import Idealize.ShloMosaic.Lib.Pointwise
public import Idealize.ShloMosaic.Lib.WordSum

@[expose] public section

set_option maxRecDepth 16384

noncomputable section

namespace Cert.Proof.PI

open Cert.KernelIdeal Cert.KernelIdeal.Gen
open Idealize.ShloMosaic
open Cert.Proof.Level

/-- The sums of two numbers `n` apart. -/
def halves (n : ℕ) (G : ℕ → ℕ) (i : ℕ) : ℕ := G i + G (n + i)

/-- Where a stack holds the numbers `G`, the sum of its halves holds the sums. -/
theorem halve_apply (n : ℕ) (m : IVec ⟨2, ![n + n, 1024]⟩ 16) (h0 : (⟨2, ![n + n, 1024]⟩ : Shape).Slices ![0, 0] ⟨2, ![n, 1024]⟩)
    (h1 : (⟨2, ![n + n, 1024]⟩ : Shape).Slices ![n, 0] ⟨2, ![n, 1024]⟩) (G : ℕ → ℕ) (j : Fin 1024)
    (hm : ∀ i : Fin (n + n), m (ix2 i j) = BitVec.ofNat 16 (G i.val)) (i : Fin n) :
    halve n m h0 h1 (ix2 i j) = BitVec.ofNat 16 (halves n G i.val) := by
  show m _ + m _ = _
  unfold halves
  rw [show (BitVec.ofNat 16 (G i.val + G (n + i.val))) = BitVec.ofNat 16 (G i.val) + BitVec.ofNat 16 (G (n + i.val)) from
    BitVec.ofNat_add _ _]
  congr 1
  · refine (congrArg m ?_).trans (hm ⟨i.val, by omega⟩)
    refine funext fun a => Fin.ext ?_
    match a with
    | ⟨0, _⟩ => show 0 + i.val = i.val; omega
    | ⟨1, _⟩ => show 0 + j.val = j.val; omega
  · refine (congrArg m ?_).trans (hm ⟨n + i.val, by omega⟩)
    refine funext fun a => Fin.ext ?_
    match a with
    | ⟨0, _⟩ => rfl
    | ⟨1, _⟩ => show 0 + j.val = j.val; omega

/-- Halving keeps the total, -/
theorem sum_halves (n : ℕ) (G : ℕ → ℕ) : ∑ i ∈ Finset.range n, halves n G i = ∑ i ∈ Finset.range (n + n), G i := by
  unfold halves
  rw [Finset.sum_add_distrib, Finset.sum_range_add]

/-- and doubles a bound. -/
theorem halves_le (n B : ℕ) (G : ℕ → ℕ) (h : ∀ i, G i ≤ B) (i : ℕ) : halves n G i ≤ B + B :=
  Nat.add_le_add (h _) (h _)

/-- A fold of word sums is the sum's word. -/
theorem fold_addi {ι : Type} (s : Finset ι) (f : ι → BitVec 32) (G : ι → ℕ) (hf : ∀ i, f i = BitVec.ofNat 32 (G i)) :
    s.fold IntOp.addi 0#32 f = BitVec.ofNat 32 (∑ i ∈ s, G i) := by
  classical
  induction s using Finset.induction_on with
  | empty => rfl
  | insert a s ha ih =>
    rw [Finset.fold_insert ha, ih, Finset.sum_insert ha, hf]
    exact (BitVec.ofNat_add _ _).symm

/-- A small word widened keeps its number. -/
theorem signExtend_small (k : ℕ) (h : k ≤ 64) : BitVec.signExtend 32 (BitVec.ofNat 16 k) = BitVec.ofNat 32 k := by
  have key : ∀ k : Fin 65, BitVec.signExtend 32 (BitVec.ofNat 16 k.val) = BitVec.ofNat 32 k.val := by decide +kernel
  exact key ⟨k, by omega⟩

/-- The last sum of the counting, over sixteen rows. -/
theorem total_apply (x : IVec S16x1024 16) (n : Fin 1024) (G : ℕ → ℕ) (hG : ∀ i, G i ≤ 64)
    (hx : ∀ i : Fin 16, x (ix2 i n) = BitVec.ofNat 16 (G i.val)) :
    shapeCast S1x1024 (multiReductionI .add [0] S1024 (extsi 32 x natLt_16_32) 0#32 reduces_S16x1024_S1024 rfl)
      shapeCasts_S1024_S1x1024 (ix2 0 n) = BitVec.ofNat 32 (∑ i ∈ Finset.range 16, G i) := by
  pointwise
  rw [fold_addi Finset.univ _ (fun i : Fin 16 => G i.val) (fun i => by rw [hx i]; exact signExtend_small _ (hG _)),
    Fin.sum_univ_eq_sum_range (fun i => G i) 16]

/-- The counting by halves counts the entries of the column that reach its float. -/
theorem counts_apply (a : FVec Ideal S1024x1024 .f32) (f : FVec Ideal S1x1024 .f32) (n : Fin 1024) :
    counts a f (ix2 0 n) = BitVec.ofNat 32 (hits (fun m => a (ix2 m n)) (f (ix2 0 n))) := by
  let g : ℕ → ℕ := fun i => if h : i < 1024 then (if f (ix2 0 n) ≤ a (ix2 ⟨i, h⟩ n) then 1 else 0) else 0
  have hg : ∀ i, g i ≤ 1 := by
    intro i
    simp only [g]
    split
    · split <;> omega
    · omega
  have h0 : ∀ i : Fin (512 + 512), (extui 16 (cmpf .oge a (broadcastTo S1024x1024 f broadcasts_S1x1024_S1024x1024)) natLt_1_16)
      (ix2 i n) = BitVec.ofNat 16 (g i.val) := by
    intro i
    have hi : i.val < 1024 := i.isLt
    have e : (extui 16 (cmpf .oge a (broadcastTo S1024x1024 f broadcasts_S1x1024_S1024x1024)) natLt_1_16) (ix2 (⟨i.val, hi⟩ : Fin 1024) n)
        = BitVec.setWidth 16 (BitVec.ofBool (decide (f (ix2 0 n) ≤ a (ix2 ⟨i.val, hi⟩ n)))) := by pointwise
    refine e.trans ?_
    simp only [g, hi, ↓reduceDIte]
    by_cases hle : f (ix2 0 n) ≤ a (ix2 ⟨i.val, hi⟩ n)
    · simp only [hle, decide_true, ↓reduceIte]; rfl
    · simp only [hle, decide_false, ↓reduceIte]; rfl
  have h1 := halve_apply 512 _ slices_S1024x1024_o0_0_S512x1024 slices_S1024x1024_o512_0_S512x1024 g n h0
  have h2 := halve_apply 256 _ slices_S512x1024_o0_0_S256x1024 slices_S512x1024_o256_0_S256x1024 _ n h1
  have h3 := halve_apply 128 _ slices_S256x1024_o0_0_S128x1024 slices_S256x1024_o128_0_S128x1024 _ n h2
  have h4 := halve_apply 64 _ slices_S128x1024_o0_0_S64x1024 slices_S128x1024_o64_0_S64x1024 _ n h3
  have h5 := halve_apply 32 _ slices_S64x1024_o0_0_S32x1024 slices_S64x1024_o32_0_S32x1024 _ n h4
  have h6 := halve_apply 16 _ slices_S32x1024_o0_0_S16x1024 slices_S32x1024_o16_0_S16x1024 _ n h5
  have b := halves_le 16 32 _ (halves_le 32 16 _ (halves_le 64 8 _ (halves_le 128 4 _ (halves_le 256 2 _ (halves_le 512 1 g hg)))))
  refine (total_apply _ n _ b h6).trans (congrArg _ ?_)
  rw [sum_halves 16, sum_halves 32, sum_halves 64, sum_halves 128, sum_halves 256, sum_halves 512]
  show ∑ i ∈ Finset.range 1024, g i = _
  rw [← Fin.sum_univ_eq_sum_range g 1024]
  unfold hits
  rw [Finset.card_filter]
  refine Finset.sum_congr rfl fun i _ => ?_
  simp only [g, i.isLt, ↓reduceDIte, Fin.eta]

/-- The pattern tried for class `u` is the word of its level, -/
theorem pattern_eq (u : Fin 1024) :
    Scalar.select (IntOp.cmpi .sge (IntOp.shli .vector (IntOp.subi (BitVec.ofNat 32 (u.val * 64)) 32768#32) 16#32) 0#32)
      (IntOp.shli .vector (IntOp.subi (BitVec.ofNat 32 (u.val * 64)) 32768#32) 16#32)
      (IntOp.xori (IntOp.xori (IntOp.shli .vector (IntOp.subi (BitVec.ofNat 32 (u.val * 64)) 32768#32) 16#32) 2147483648#32)
        4294967295#32) = word u.val := by
  revert u
  decide +kernel

/-- and passing it through sixteen bits changes nothing. -/
theorem pass16_eq (u : Fin 1024) :
    IntOp.shli .vector (BitVec.signExtend 32 (BitVec.setWidth 16 (IntOp.subi (BitVec.ofNat 32 (u.val * 64)) 32768#32))) 16#32
      = IntOp.shli .vector (IntOp.subi (BitVec.ofNat 32 (u.val * 64)) 32768#32) 16#32 := by
  revert u
  decide +kernel

/-- The float of a key, at a column. -/
theorem keyFloat_apply (k : IVec S1x1024 32) (n : Fin 1024) : keyFloat (F := Ideal) k (ix2 0 n)
    = Ideal.ofBits .f32 (Scalar.select (IntOp.cmpi .sge (k (ix2 0 n)) 0#32) (k (ix2 0 n))
        (IntOp.xori (IntOp.xori (k (ix2 0 n)) 2147483648#32) 4294967295#32)) := by
  pointwise [keyFloat]

/-- The float tried for class `u` is its level, -/
theorem tried_eq (r : IVec S1x1024 32) (n : Fin 1024) (u : ℕ) (hu : u < 1024) (hr : r (ix2 0 n) = BitVec.ofNat 32 (u * 64)) :
    keyFloat (F := Ideal) (keyOf r) (ix2 0 n) = lev u := by
  have e : keyOf r (ix2 0 n)
      = IntOp.shli .vector (BitVec.signExtend 32 (BitVec.setWidth 16 (IntOp.subi (r (ix2 0 n)) 32768#32))) 16#32 := by pointwise
  rw [keyFloat_apply, e, hr, pass16_eq ⟨u, hu⟩, pattern_eq ⟨u, hu⟩]
  rfl

/-- and so is the threshold once the search has ended at class `u`. -/
theorem thresholds_apply (r : IVec S1x1024 32) (n : Fin 1024) (u : ℕ) (hu : u < 1024) (hr : r (ix2 0 n) = BitVec.ofNat 32 (u * 64)) :
    thresholds (F := Ideal) r (ix2 0 n) = lev u := by
  have e : (shli (subi r (broadcast S1x1024 32768#32)) (broadcast S1x1024 16#32)) (ix2 0 n)
      = IntOp.shli .vector (IntOp.subi (r (ix2 0 n)) 32768#32) 16#32 := by pointwise
  unfold thresholds
  rw [keyFloat_apply, e, hr, pattern_eq ⟨u, hu⟩]
  rfl

/-- A count is at most 1024. -/
theorem hits_le (a : Fin 1024 → EReal) (x : EReal) : hits a x ≤ 1024 := by
  unfold hits
  exact (Finset.card_le_univ _).trans (by rw [Fintype.card_fin])

/-- A count compared with 819. -/
theorem sge_count (k : ℕ) (h : k ≤ 1024) : IntOp.cmpi .sge (BitVec.ofNat 32 k) 819#32 = BitVec.ofBool (decide (819 ≤ k)) := by
  have key : ∀ k : Fin 1025, IntOp.cmpi .sge (BitVec.ofNat 32 k.val) 819#32 = BitVec.ofBool (decide (819 ≤ k.val)) := by decide +kernel
  exact key ⟨k, by omega⟩

/-- One step of the search, at a column where the classes found so far make `u`. -/
theorem step_apply (a : FVec Ideal S1024x1024 .f32) (r : IVec S1x1024 32) (n : Fin 1024) (b : ℕ) (w : BitVec 32) (u : ℕ)
    (hr : r (ix2 0 n) = BitVec.ofNat 32 (u * 64)) (hu : u + b < 1024)
    (hw : IntOp.ori (BitVec.ofNat 32 (u * 64)) w = BitVec.ofNat 32 ((u + b) * 64)) :
    step a w r (ix2 0 n) = BitVec.ofNat 32 (pick (Enough fun m => a (ix2 m n)) b u * 64) := by
  have hc : cand w r (ix2 0 n) = BitVec.ofNat 32 ((u + b) * 64) := by
    have e : cand w r (ix2 0 n) = IntOp.ori (r (ix2 0 n)) w := by pointwise
    rw [e, hr, hw]
  have e : step a w r (ix2 0 n) = Scalar.select (IntOp.cmpi .sge (counts a (keyFloat (keyOf (cand w r))) (ix2 0 n)) 819#32)
      (cand w r (ix2 0 n)) (r (ix2 0 n)) := by
    unfold step
    generalize counts a (keyFloat (keyOf (cand w r))) = x
    generalize cand w r = y
    pointwise
  rw [e, counts_apply, tried_eq _ n (u + b) hu hc, hc, hr, sge_count _ (hits_le _ _)]
  unfold pick Enough
  by_cases h : 819 ≤ hits (fun m => a (ix2 m n)) (lev (u + b))
  · simp only [h, decide_true, ↓reduceIte]; rfl
  · simp only [h, decide_false, ↓reduceIte]; rfl

/-- Setting a bit that is clear, and below which all are clear, adds it. -/
theorem ori_add (u : ℕ) (b : ℕ) (hb : b ∈ [512, 256, 128, 64, 32, 16, 8, 4, 2, 1]) (hm : u % (2 * b) = 0) (hu : u < 1024) :
    IntOp.ori (BitVec.ofNat 32 (u * 64)) (BitVec.ofNat 32 (b * 64)) = BitVec.ofNat 32 ((u + b) * 64) := by
  have key : ∀ b ∈ [512, 256, 128, 64, 32, 16, 8, 4, 2, 1], ∀ u : Fin 1024, u.val % (2 * b) = 0 →
      IntOp.ori (BitVec.ofNat 32 (u.val * 64)) (BitVec.ofNat 32 (b * 64)) = BitVec.ofNat 32 ((u.val + b) * 64) := by decide +kernel
  exact key b hb ⟨u, hu⟩ hm

/-- One step keeps the column settled, one bit further. -/
theorem step_settled (a : FVec Ideal S1024x1024 .f32) (r : IVec S1x1024 32) (n : Fin 1024) (ha : ∀ m, a (ix2 m n) ≠ ⊤)
    (b : ℕ) (hb : b ∈ [512, 256, 128, 64, 32, 16, 8, 4, 2, 1]) (hb0 : 0 < b) (u : ℕ)
    (h : r (ix2 0 n) = BitVec.ofNat 32 (u * 64) ∧ Settled (Enough fun m => a (ix2 m n)) (2 * b) u) :
    step a (BitVec.ofNat 32 (b * 64)) r (ix2 0 n) = BitVec.ofNat 32 (pick (Enough fun m => a (ix2 m n)) b u * 64)
      ∧ Settled (Enough fun m => a (ix2 m n)) b (pick (Enough fun m => a (ix2 m n)) b u) := by
  have hle := h.2.le
  exact ⟨step_apply a r n b _ u h.1 (by omega) (ori_add u b hb h.2.mod (by omega)),
    h.2.pick (enough_anti _) (not_enough_top _ ha) hb0⟩

/-- The search ends, in every column, at the greatest class that 819 of its entries reach. -/
theorem search_apply (a : FVec Ideal S1024x1024 .f32) (n : Fin 1024) (ha : ∀ m, a (ix2 m n) ≠ ⊤) :
    search a (ix2 0 n) = BitVec.ofNat 32 (find (Enough fun m => a (ix2 m n)) * 64) := by
  have h0 : (broadcast S1x1024 0#32 : IVec S1x1024 32) (ix2 0 n) = BitVec.ofNat 32 (0 * 64)
      ∧ Settled (Enough fun m => a (ix2 m n)) (2 * 512) 0 := ⟨rfl, settled_zero (enough_zero _)⟩
  have h1 := step_settled a _ n ha 512 (by decide) (by omega) _ h0
  have h2 := step_settled a _ n ha 256 (by decide) (by omega) _ h1
  have h3 := step_settled a _ n ha 128 (by decide) (by omega) _ h2
  have h4 := step_settled a _ n ha 64 (by decide) (by omega) _ h3
  have h5 := step_settled a _ n ha 32 (by decide) (by omega) _ h4
  have h6 := step_settled a _ n ha 16 (by decide) (by omega) _ h5
  have h7 := step_settled a _ n ha 8 (by decide) (by omega) _ h6
  have h8 := step_settled a _ n ha 4 (by decide) (by omega) _ h7
  have h9 := step_settled a _ n ha 2 (by decide) (by omega) _ h8
  exact (step_settled a _ n ha 1 (by decide) (by omega) _ h9).1

/-- The weights kept: the exponentials of the entries that reach the level found, zero elsewhere. -/
theorem kept_apply (a : FVec Ideal S1024x1024 .f32) (m n : Fin 1024) (ha : ∀ m, a (ix2 m n) ≠ ⊤) :
    kept a (ix2 m n) = if lev (find (Enough fun m => a (ix2 m n))) ≤ a (ix2 m n) then Ideal.exp (a (ix2 m n)) else 0 := by
  have hs := settled_find (fun m => a (ix2 m n)) ha
  have e : ∀ r : IVec S1x1024 32, keptAt a r (ix2 m n)
      = if thresholds (F := Ideal) r (ix2 0 n) ≤ a (ix2 m n) then Ideal.exp (a (ix2 m n)) else 0 := by
    intro r
    unfold keptAt
    generalize thresholds (F := Ideal) r = T
    pointwise
  unfold kept
  rw [e, thresholds_apply _ n _ (by have := hs.lt; omega) (search_apply a n ha)]

end Cert.Proof.PI

end
-- ==== Proof.Slabs.lean ====
/-
  The kernel's slabs are rows of the convolution: its shifts by column ranges under masks read the zero-padded neighbours.
-/
module

public import proofs.«01_k».proof.Proof.Body
public import proofs.«01_k».proof.Proof.Conv
public import Idealize.ShloMosaic.Lib.Pointwise

@[expose] public section

set_option maxRecDepth 16384

noncomputable section

namespace Cert.Proof.PI

open Cert.KernelIdeal Cert.KernelIdeal.Gen
open Idealize.ShloMosaic

/-- A position's image row, -/
theorem hh_apply (p : Fin 256) : hh (ix2 0 p) = BitVec.ofNat 32 (p.val / 16) := by
  pointwise [hh, k0_pay6, k0_pay7, k0_pay8, k0_pay9]
  revert p
  decide +kernel

/-- and its image column. -/
theorem ww_apply (p : Fin 256) : ww (ix2 0 p) = BitVec.ofNat 32 (p.val % 16) := by
  pointwise [ww, k0_pay10]
  revert p
  decide +kernel

/-- The mask at a position whose row and column are these words. -/
def maskAt (dy dx a b : BitVec 32) : BitVec 1 :=
  IntOp.andi (IntOp.andi (IntOp.andi (IntOp.cmpi .sge (IntOp.addi a dy) 0#32) (IntOp.cmpi .slt (IntOp.addi a dy) 16#32))
    (IntOp.cmpi .sge (IntOp.addi b dx) 0#32)) (IntOp.cmpi .slt (IntOp.addi b dx) 16#32)

/-- The mask at a position. -/
theorem mask_apply (dy dx : BitVec 32) (p : Fin 256) :
    mask dy dx (ix2 0 p) = maskAt dy dx (BitVec.ofNat 32 (p.val / 16)) (BitVec.ofNat 32 (p.val % 16)) := by
  rw [← hh_apply, ← ww_apply]
  unfold mask inside maskAt
  generalize hh = a
  generalize ww = b
  pointwise

/-- One tap reads the neighbour, once the mask is known and the shifted array holds it. -/
theorem tap_near (dy dx : BitVec 32) (u v : ℕ)
    (hm : ∀ p : Fin 256, maskAt dy dx (BitVec.ofNat 32 (p.val / 16)) (BitVec.ofNat 32 (p.val % 16)) = BitVec.ofBool (decide (Conv.Near p.val u v)))
    (src : FVec Ideal S12x256 .f32) (w : Elt Ideal .f32) (Y : Fin 12 → Fin 256 → EReal) (c : Fin 12) (p : Fin 256)
    (hs : ∀ h : Conv.Near p.val u v, src (ix2 c p) = Y c ⟨(p.val / 16 + u - 1) * 16 + (p.val % 16 + v - 1), by omega⟩) :
    tap dy dx src w (ix2 c p) = Conv.near Y c p u v * (w : EReal) := by
  have e : tap dy dx src w (ix2 c p) = Scalar.select (mask dy dx (ix2 0 p)) ((src (ix2 c p) : EReal) * w) 0 := by
    unfold tap
    generalize mask dy dx = M
    pointwise
  rw [e, mask_apply, hm p]
  unfold Conv.near
  by_cases h : Conv.Near p.val u v
  · rw [dif_pos h, hs h]
    rw [decide_eq_true h]
    rfl
  · rw [dif_neg h, zero_mul]
    rw [decide_eq_false h]
    rfl

/-- The words of the three offsets, -1, 0 and 1. -/
def off : Fin 3 → BitVec 32 := ![4294967295#32, 0#32, 1#32]

/-- Each tap's mask says whether its neighbour lies in the image. -/
theorem mask_near (u v : Fin 3) (p : Fin 256) :
    maskAt (off u) (off v) (BitVec.ofNat 32 (p.val / 16)) (BitVec.ofNat 32 (p.val % 16)) = BitVec.ofBool (decide (Conv.Near p.val u.val v.val)) := by
  revert u v p
  decide +kernel

/-- Two ranges of columns swapped are the columns shifted round by the first range's start. -/
theorem swap_apply (a b k : ℕ) (hak : a + k = 256) (hbk : b = k) (y : FVec Ideal S12x256 .f32) (ha : S12x256.Slices ![0, k] ⟨2, ![12, a]⟩)
    (hb : S12x256.Slices ![0, 0] ⟨2, ![12, b]⟩) (hc : Shape.Concatenates [⟨2, ![12, a]⟩, ⟨2, ![12, b]⟩] S12x256 1) (c : Fin 12) (p : Fin 256) :
    swap ⟨2, ![12, a]⟩ ⟨2, ![12, b]⟩ k 0 y ha hb hc (ix2 c p) = y (ix2 c ⟨(p.val + k) % 256, by omega⟩) := by
  have hp := p.isLt
  by_cases h : p.val < a
  · refine (concatenate_pair_apply_left (t := S12x256) (1 : Fin 2) (extractStridedSlice ⟨2, ![12, a]⟩ ![0, k] y ha)
      (extractStridedSlice ⟨2, ![12, b]⟩ ![0, 0] y hb) hc (ix2 c p) rfl (ix2 c ⟨p.val, h⟩) fun d => by fin_cases d <;> rfl).trans ?_
    refine congrArg y (funext fun d => Fin.ext ?_)
    fin_cases d
    · show 0 + c.val = c.val
      omega
    · show k + p.val = (p.val + k) % 256
      omega
  · refine (concatenate_pair_apply_right (t := S12x256) (1 : Fin 2) (extractStridedSlice ⟨2, ![12, a]⟩ ![0, k] y ha)
      (extractStridedSlice ⟨2, ![12, b]⟩ ![0, 0] y hb) hc (ix2 c p) rfl rfl (ix2 c ⟨p.val - a, by omega⟩) (fun d hd => ?_) ?_).trans ?_
    · fin_cases d
      · rfl
      · exact absurd rfl hd
    · show p.val - a + a = p.val
      omega
    · refine congrArg y (funext fun d => Fin.ext ?_)
      fin_cases d
      · show 0 + c.val = c.val
        omega
      · show 0 + (p.val - a) = (p.val + k) % 256
        omega

/-- A tap of columns shifted round by `k` reads the neighbour that lies `k` columns on. -/
theorem tap_apply (u v : Fin 3) (k : ℕ) (hk : (k + 17) % 256 = (16 * u.val + v.val) % 256) (y src : FVec Ideal S12x256 .f32)
    (w : Elt Ideal .f32) (c : Fin 12) (p : Fin 256) (hs : src (ix2 c p) = y (ix2 c ⟨(p.val + k) % 256, by omega⟩)) :
    tap (off u) (off v) src w (ix2 c p) = Conv.near (fun c p => y (ix2 c p)) c p u.val v.val * (w : EReal) := by
  have hp := p.isLt
  have hu := u.isLt
  have hv := v.isLt
  refine tap_near (off u) (off v) u.val v.val (mask_near u v) src w _ c p fun h => hs.trans ?_
  refine congrArg y (congrArg (ix2 c) (Fin.ext ?_))
  show (p.val + k) % 256 = (p.val / 16 + u.val - 1) * 16 + (p.val % 16 + v.val - 1)
  obtain ⟨⟨h1, h2⟩, h3, h4⟩ := h
  omega

/-- A sum at an index. -/
theorem addf_of (a b : FVec Ideal S12x256 .f32) (j : S12x256.Idx) (x y : EReal) (ha : a j = x) (hb : b j = y) : addf a b j = x + y := by
  subst ha hb
  rfl

/-- The kernel's convolution is the convolution. -/
theorem conv_apply (y : FVec Ideal S12x256 .f32) (w : Fin 3 → Fin 3 → Elt Ideal .f32) (c : Fin 12) (p : Fin 256) :
    conv y w (ix2 c p) = Conv.conv (fun c p => y (ix2 c p)) w c p := by
  unfold conv Conv.conv
  exact addf_of _ _ _ _ _ (addf_of _ _ _ _ _ (addf_of _ _ _ _ _ (addf_of _ _ _ _ _ (addf_of _ _ _ _ _ (addf_of _ _ _ _ _ (addf_of _ _ _ _ _ (addf_of _ _ _ _ _ (tap_apply 0 0 239 rfl y _ (w 0 0) c p (swap_apply 17 239 239 rfl rfl y _ _ _ c p))
    (tap_apply 0 1 240 rfl y _ (w 0 1) c p (swap_apply 16 240 240 rfl rfl y _ _ _ c p)))
    (tap_apply 0 2 241 rfl y _ (w 0 2) c p (swap_apply 15 241 241 rfl rfl y _ _ _ c p)))
    (tap_apply 1 0 255 rfl y _ (w 1 0) c p (swap_apply 1 255 255 rfl rfl y _ _ _ c p)))
    (tap_apply 1 1 0 rfl y y (w 1 1) c p (congrArg (fun q => y (ix2 c q)) (Fin.ext (Nat.mod_eq_of_lt p.isLt).symm))))
    (tap_apply 1 2 1 rfl y _ (w 1 2) c p (swap_apply 255 1 1 rfl rfl y _ _ _ c p)))
    (tap_apply 2 0 15 rfl y _ (w 2 0) c p (swap_apply 241 15 15 rfl rfl y _ _ _ c p)))
    (tap_apply 2 1 16 rfl y _ (w 2 1) c p (swap_apply 240 16 16 rfl rfl y _ _ _ c p)))
    (tap_apply 2 2 17 rfl y _ (w 2 2) c p (swap_apply 239 17 17 rfl rfl y _ _ _ c p))

/-- The kernel's projection is the projection, -/
theorem mix_apply (X : Fin 4 → FVec Ideal S12x256 .f32) (w : Fin 4 → Elt Ideal .f32) (c : Fin 12) (p : Fin 256) :
    mix X w (ix2 c p) = Conv.mix (fun g => X g (ix2 c p)) w := by
  unfold Conv.mix
  pointwise [mix]

variable (X : Fin 4 → FVec Ideal S12x256 .f32) (wq : Fin 12 → Fin 4 → Elt Ideal .f32) (wd : Fin 12 → Fin 3 → Fin 3 → Elt Ideal .f32)

/-- and its slab a row of the convolution. -/
theorem slab_apply (o c : Fin 12) (p : Fin 256) :
    slab X wq wd o (ix2 c p) = Conv.row (fun g c p => X g (ix2 c p)) wq wd o c p := by
  unfold slab Conv.row
  rw [conv_apply]
  simp only [mix_apply]

/-- Four slabs side by side, at a position. -/
theorem part_apply (s : Fin 4 → FVec Ideal S12x256 .f32) (c : Fin 12) (n : Fin 1024) :
    part s (ix2 c n) = s ⟨n.val / 256, by omega⟩ (ix2 c ⟨n.val % 256, by omega⟩) := by
  have hn := n.isLt
  have e : part s (ix2 c n) = if h : n.val < 256 then s 0 (ix2 c ⟨n.val, h⟩) else
      if h : n.val - 256 < 256 then s 1 (ix2 c ⟨n.val - 256, h⟩) else
      if h : n.val - 256 - 256 < 256 then s 2 (ix2 c ⟨n.val - 256 - 256, h⟩) else s 3 (ix2 c ⟨n.val - 256 - 256 - 256, by omega⟩) := by
    pointwise [part]
  rw [e]
  have hk : ∀ (k : Fin 4) (h : n.val / 256 = k.val) (q : Fin 256) (hq : q.val = n.val % 256),
      s k (ix2 c q) = s ⟨n.val / 256, by omega⟩ (ix2 c ⟨n.val % 256, by omega⟩) := by
    intro k h q hq
    rw [show (⟨n.val / 256, by omega⟩ : Fin 4) = k from Fin.ext h, show (⟨n.val % 256, by omega⟩ : Fin 256) = q from Fin.ext hq.symm]
  split
  · exact hk 0 (by show _ = 0; omega) _ (by show n.val = _; omega)
  split
  · exact hk 1 (by show _ = 1; omega) _ (by show n.val - 256 = _; omega)
  split
  · exact hk 2 (by show _ = 2; omega) _ (by show n.val - 256 - 256 = _; omega)
  · exact hk 3 (by show _ = 3; omega) _ (by show n.val - 256 - 256 - 256 = _; omega)

/-- Queries, keys and values at a position: the rows of the convolution from 0, 4 and 8 on. -/
theorem qs_apply (c : Fin 12) (n : Fin 1024) : qs X wq wd (ix2 c n)
    = Conv.row (fun g c p => X g (ix2 c p)) wq wd ⟨n.val / 256, by omega⟩ c ⟨n.val % 256, by omega⟩ := by
  unfold qs
  rw [part_apply, ← slab_apply]
  have key : ∀ i : Fin 4, (![slab X wq wd 0, slab X wq wd 1, slab X wq wd 2, slab X wq wd 3] : Fin 4 → FVec Ideal S12x256 .f32) i
      = slab X wq wd ⟨i.val, by omega⟩ := fun i => match i with
    | 0 => rfl | 1 => rfl | 2 => rfl | 3 => rfl
  rw [key]

/-- The keys likewise, -/
theorem ks_apply (c : Fin 12) (n : Fin 1024) : ks X wq wd (ix2 c n)
    = Conv.row (fun g c p => X g (ix2 c p)) wq wd ⟨4 + n.val / 256, by omega⟩ c ⟨n.val % 256, by omega⟩ := by
  unfold ks
  rw [part_apply, ← slab_apply]
  have key : ∀ i : Fin 4, (![slab X wq wd 4, slab X wq wd 5, slab X wq wd 6, slab X wq wd 7] : Fin 4 → FVec Ideal S12x256 .f32) i
      = slab X wq wd ⟨4 + i.val, by omega⟩ := fun i => match i with
    | 0 => rfl | 1 => rfl | 2 => rfl | 3 => rfl
  rw [key]

/-- and the values. -/
theorem vs_apply (c : Fin 12) (n : Fin 1024) : vs X wq wd (ix2 c n)
    = Conv.row (fun g c p => X g (ix2 c p)) wq wd ⟨8 + n.val / 256, by omega⟩ c ⟨n.val % 256, by omega⟩ := by
  unfold vs
  rw [part_apply, ← slab_apply]
  have key : ∀ i : Fin 4, (![slab X wq wd 8, slab X wq wd 9, slab X wq wd 10, slab X wq wd 11] : Fin 4 → FVec Ideal S12x256 .f32) i
      = slab X wq wd ⟨8 + i.val, by omega⟩ := fun i => match i with
    | 0 => rfl | 1 => rfl | 2 => rfl | 3 => rfl
  rw [key]

end Cert.Proof.PI

end
-- ==== Proof.Tie.lean ====
/-
  What the kernel stores for a head is the reference's attention of that head, at the positions the kernel counts
  otherwise.
-/
module

public import proofs.«01_k».proof.Proof.RefSoft
public import proofs.«01_k».proof.Proof.Search
public import proofs.«01_k».proof.Proof.Slabs

@[expose] public section

set_option maxRecDepth 16384

noncomputable section

namespace Cert.Proof.PI

open Cert.KernelIdeal Cert.KernelIdeal.Gen
open Idealize.ShloMosaic
open Cert.Proof.Conv (IsReal)

/-- The similarities at a pair of positions. -/
theorem sims_apply (q k : FVec Ideal S12x1024 .f32) (t : Elt Ideal .f32) (m n : Fin 1024) : sims q k t (ix2 m n)
    = ∑ c : Fin 12, Ideal.div (k (ix2 c m)) (Sim.nrm fun x => k (ix2 c x))
        * (q (ix2 c n) * Ideal.div (t : EReal) (Sim.nrm fun x => q (ix2 c x))) := by
  pointwise [sims, norms]
  rfl

/-- The quotient of one block of query positions, at a position. -/
theorem quotient_apply (v : FVec Ideal S12x1024 .f32) (P : FVec Ideal S1024x1024 .f32) (k : ℕ)
    (hs : S1024x1024.Slices ![0, k] S1024x256) (c : Fin 12) (p : Fin 256) (n : Fin 1024) (hn : n.val = k + p.val) :
    quotient (withOnes v) (cols k P hs) (ix4 0 0 c p)
      = Ideal.div (∑ m, v (ix2 c m) * P (ix2 m n)) (∑ m, P (ix2 m n)) := by
  obtain ⟨n, hlt⟩ := n
  simp only at hn
  subst hn
  pointwise [quotient, withOnes, k0_pay305, k0_pay307]

variable (X : Fin 4 → FVec Ideal S12x256 .f32) (wq : Fin 12 → Fin 4 → Elt Ideal .f32) (wd : Fin 12 → Fin 3 → Fin 3 → Elt Ideal .f32)
  (t : Elt Ideal .f32)

/-- What a head stores, at a position. -/
theorem stored_apply (g : Fin 4) (c : Fin 12) (p : Fin 256) (n : Fin 1024) (hn : n.val = 256 * g.val + p.val) :
    stored X wq wd t g (ix4 0 0 c p)
      = Ideal.div (∑ m, vs X wq wd (ix2 c m) * kept (att X wq wd t) (ix2 m n)) (∑ m, kept (att X wq wd t) (ix2 m n)) := by
  unfold stored
  match g, hn with
  | 0, hn => exact quotient_apply _ _ 0 _ c p n hn
  | 1, hn => exact quotient_apply _ _ 256 _ c p n hn
  | 2, hn => exact quotient_apply _ _ 512 _ c p n hn
  | 3, hn => exact quotient_apply _ _ 768 _ c p n hn

open Cert.Proof.RI (pos)

variable (V : Valuation Cert.ReferenceIdeal.τ Cert.ReferenceIdeal.sig (Elt Ideal)) (b : Fin 2) (h : Fin 8)

/-- The channels' norms of the reference's queries do not depend on the order of the positions. -/
theorem nrm_pos (f : Fin 1024 → EReal) : Sim.nrm f = Sim.nrm fun n => f (pos n) := (Sim.nrm_comp f pos).symm

/-- With a real temperature the kernel's head is the reference's. -/
theorem stored_eq (hX : ∀ g c p, X g (ix2 c p) = RI.xs V b h g c p) (hwq : wq = RI.wq V) (hwd : wd = RI.wd V)
    (ht : t = RI.tp V h) (rt : IsReal (RI.tp V h)) (g : Fin 4) (c : Fin 12) (p : Fin 256) (n : Fin 1024)
    (hn : n.val = 256 * g.val + p.val) :
    stored X wq wd t g (ix4 0 0 c p)
      = RI.mean (RI.vals V) (Cert.ReferenceIdeal.Value.res_main_v109 V) (ix4 b h c (pos n)) := by
  subst hwq hwd ht
  have hXf : (fun g c p => X g (ix2 c p)) = RI.xs V b h := funext fun g => funext fun c => funext fun p => hX g c p
  -- the kernel's three parts
  have hq : ∀ c n, qs X (RI.wq V) (RI.wd V) (ix2 c n) = RI.row V b h ⟨n.val / 256, by omega⟩ c ⟨n.val % 256, by omega⟩ := fun c n =>
    (qs_apply _ _ _ c n).trans (by rw [hXf])
  have hk : ∀ c n, ks X (RI.wq V) (RI.wd V) (ix2 c n) = RI.row V b h ⟨4 + n.val / 256, by omega⟩ c ⟨n.val % 256, by omega⟩ := fun c n =>
    (ks_apply _ _ _ c n).trans (by rw [hXf])
  have hv : ∀ c n, vs X (RI.wq V) (RI.wd V) (ix2 c n) = RI.row V b h ⟨8 + n.val / 256, by omega⟩ c ⟨n.val % 256, by omega⟩ := fun c n =>
    (vs_apply _ _ _ c n).trans (by rw [hXf])
  -- the similarities agree and are real
  have hS : ∀ m n, att X (RI.wq V) (RI.wd V) (RI.tp V h) (ix2 m n)
        = (Cert.ReferenceIdeal.Value.res_main_v81 V : FVec Ideal Cert.ReferenceIdeal.S2x8x1024x1024 .f32) (ix4 b h (pos n) (pos m))
      ∧ IsReal (att X (RI.wq V) (RI.wd V) (RI.tp V h) (ix2 m n)) := by
    intro m n
    have hs := Sim.sim_eq (fun c n => RI.row V b h ⟨n.val / 256, by omega⟩ c ⟨n.val % 256, by omega⟩)
      (fun c n => RI.row V b h ⟨4 + n.val / 256, by omega⟩ c ⟨n.val % 256, by omega⟩) rt m n
    have ek : att X (RI.wq V) (RI.wd V) (RI.tp V h) (ix2 m n) = _ := (sims_apply _ _ _ m n).trans (by simp only [hq, hk]; exact hs.1)
    refine ⟨ek.trans ?_, by rw [ek]; exact hs.2⟩
    rw [RI.v81_apply]
    refine congrArg (· * RI.tp V h) (Finset.sum_congr rfl fun c _ => ?_)
    rw [nrm_pos fun x => (Cert.ReferenceIdeal.Value.res_main_v56 V : FVec Ideal Cert.ReferenceIdeal.S2x8x12x1024 .f32) (ix4 b h c x),
      nrm_pos fun x => (Cert.ReferenceIdeal.Value.res_main_v59 V : FVec Ideal Cert.ReferenceIdeal.S2x8x12x1024 .f32) (ix4 b h c x)]
    simp only [RI.v56_apply, RI.v59_apply]
  -- the row of similarities and the values, counted as the reference counts them
  choose A hA using fun m' : Fin 1024 => (hS (pos.symm m') n).2
  obtain ⟨w, hw⟩ : ∃ w : Fin 1024 → EReal, ∀ m', vs X (RI.wq V) (RI.wd V) (ix2 c (pos.symm m')) = w m' := ⟨_, fun _ => rfl⟩
  have hAk : ∀ m, att X (RI.wq V) (RI.wd V) (RI.tp V h) (ix2 m n) = (A (pos m) : EReal) := fun m => by
    have := hA (pos m); rwa [Equiv.symm_apply_apply] at this
  have hAr : ∀ m', (Cert.ReferenceIdeal.Value.res_main_v81 V : FVec Ideal Cert.ReferenceIdeal.S2x8x1024x1024 .f32) (ix4 b h (pos n) m') = (A m' : EReal) := fun m' => by
    have := (hS (pos.symm m') n).1; rw [Equiv.apply_symm_apply, hA] at this; exact this.symm
  have hwk : ∀ m, vs X (RI.wq V) (RI.wd V) (ix2 c m) = w (pos m) := fun m => by
    have := hw (pos m); rwa [Equiv.symm_apply_apply] at this
  have hwr : ∀ m', RI.vals V (ix4 b h c m') = w m' := fun m' => by
    have := RI.vals_apply V b h c (pos.symm m'); rw [Equiv.apply_symm_apply] at this; exact this.trans ((hv c _).symm.trans (hw m'))
  have hE : Level.Enough (fun m => (A (pos m) : EReal)) = Level.Enough fun m' => (A m' : EReal) := funext fun u => by
    unfold Level.Enough
    rw [Level.hits_comp (fun m' => (A m' : EReal)) pos]
  have hfin : ∀ m', (A m' : EReal) ≠ ⊤ := fun m' => EReal.coe_ne_top _
  -- the kernel's weights
  have hK : ∀ m, kept (att X (RI.wq V) (RI.wd V) (RI.tp V h)) (ix2 m n)
      = if Level.lev (Level.find (Level.Enough fun m' => (A m' : EReal))) ≤ (A (pos m) : EReal) then Ideal.exp (A (pos m) : EReal) else 0 := fun m => by
    rw [kept_apply _ m n fun m => by rw [hAk]; exact hfin _]
    simp only [hAk, hE]
  have hex : ∃ m', Level.lev (Level.find (Level.Enough fun m' => (A m' : EReal))) ≤ (A m' : EReal) := Level.exists_le _ hfin
  rw [stored_apply _ _ _ _ g c p n hn, RI.mean_apply]
  simp only [hK, hwk, hwr, RI.v109_apply V b h (pos n) _ (fun m' => (A m' : EReal)) hAr hfin]
  rw [Equiv.sum_comp pos fun m' => w m' * (if Level.lev (Level.find (Level.Enough fun m' => (A m' : EReal))) ≤ (A m' : EReal) then Ideal.exp (A m' : EReal) else 0),
    Equiv.sum_comp pos fun m' => if Level.lev (Level.find (Level.Enough fun m' => (A m' : EReal))) ≤ (A m' : EReal) then Ideal.exp (A m' : EReal) else 0]
  exact Soft.softmax_eq A w _ hex

end Cert.Proof.PI

end
-- ==== Proof.RefOut.lean ====
/-
  The reference's output read at an index: the input plus the projection of the attention over the channels.
-/
module

public import proofs.«01_k».proof.Proof.RefSoft

@[expose] public section

set_option maxRecDepth 16384

noncomputable section

namespace Cert.Proof.RI

open Cert.ReferenceIdeal Cert.ReferenceIdeal.Gen Cert.ReferenceIdeal.Value
open Idealize.ShloMosaic

/-- The output of the input, the projection's weights and the attention. -/
def out (x : FVec Ideal S2x384x16x16 .f32) (W : FVec Ideal S384x384 .f32) (z : FVec Ideal S2x8x12x1024 .f32) :
    FVec Ideal S2x384x256 .f32 :=
  shapeCast _ (addf x (transpose S2x384x16x16 [1, 0, 2, 3] (Host.dotGeneral dot_S384x384_S2x384x16x16_S384x2x16x16_1_1_0_023_n_n none W (shapeCast _ (transpose S2x4x8x12x16x16 [0, 5, 1, 2, 3, 4] (shapeCast _ z shapeCasts_S2x8x12x1024_S2x8x12x16x16x4) transposes_S2x8x12x16x16x4_S2x4x8x12x16x16_0_5_1_2_3_4) shapeCasts_S2x4x8x12x16x16_S2x384x16x16)) transposes_S384x2x16x16_S2x384x16x16_1_0_2_3)) shapeCasts_S2x384x16x16_S2x384x256

/-- Channel `x` of the projection is group `x / 96`, head `x / 12 % 8`, channel `x % 12` of the attention. -/
theorem out_apply (x : FVec Ideal S2x384x16x16 .f32) (W : FVec Ideal S384x384 .f32) (z : FVec Ideal S2x8x12x1024 .f32)
    (b : Fin 2) (o : Fin 384) (p : Fin 256) : out x W z (ix3 b o p)
      = x (ix4 b o ⟨p.val / 16, by omega⟩ ⟨p.val % 16, by omega⟩) + ∑ i : Fin 384, W (ix2 o i)
        * z (ix4 b ⟨i.val / 12 % 8, by omega⟩ ⟨i.val % 12, by omega⟩ (pos ⟨256 * (i.val / 96) + p.val, by omega⟩)) := by
  have e : out x W z (ix3 b o p) = x (ix4 b o ⟨p.val / 16, by omega⟩ ⟨p.val % 16, by omega⟩) + ∑ i : Fin 384, W (ix2 o i)
        * z (ix4 b ⟨i.val / 12 % 8, by omega⟩ ⟨i.val % 12, by omega⟩ ⟨p.val / 16 * 64 + p.val % 16 * 4 + i.val / 96, by omega⟩) := by
    unfold out
    pointwise
  rw [e]
  refine congrArg (x (ix4 b o ⟨p.val / 16, by omega⟩ ⟨p.val % 16, by omega⟩) + ·) (Finset.sum_congr rfl fun i _ => ?_)
  have hp : (⟨p.val / 16 * 64 + p.val % 16 * 4 + i.val / 96, by omega⟩ : Fin 1024) = pos ⟨256 * (i.val / 96) + p.val, by omega⟩ :=
    Fin.ext (by rw [pos_val]; simp only; omega)
  rw [hp]

end Cert.Proof.RI

end
-- ==== Proof.Blocks.lean ====
/-
  The kernel's blocks read off its argument arrays, and its output block at an index.
-/
module

public import proofs.«01_k».proof.Proof.Launch
public import Idealize.ShloMosaic.Lib.Claim
public import Idealize.ShloMosaic.Lib.Pointwise
public import Idealize.ShloMosaic.Lib.Tactic.CleanTypes
public import Idealize.ShloMosaic.Lib.Pipeline.ValueKit

@[expose] public section

set_option maxRecDepth 16384

noncomputable section

namespace Cert.Proof.PI

open Cert.KernelIdeal Cert.KernelIdeal.Gen
open Idealize.ShloMosaic Idealize.ShloMosaic.TcCoe

/-- The output block: the residual and the projection of the scratch. -/
theorem pay_apply (S : FVec Ideal S4x8x12x256 .f32) (x : FVec Ideal S1x384x256 .f32) (W : FVec Ideal S384x384 .f32)
    (o : Fin 384) (p : Fin 256) : k0_pay1 S x W (ix3 0 o p) = x (ix3 0 o p) + ∑ i : Fin 384, W (ix2 o i)
      * S (ix4 ⟨i.val / 96, by omega⟩ ⟨i.val / 12 % 8, by omega⟩ ⟨i.val % 12, by omega⟩ p) := by
  pointwise [k0_pay1]

/-- Every window's block at a point. -/
theorem idx : ∀ t : Fin cfg0.N, win0_0.index t = ![t.val / 8, 0, t.val % 8, 0, 0] ∧ win0_1.index t = ![t.val / 8, 0, 0]
    ∧ win0_2.index t = ![0, 0] ∧ win0_3.index t = ![0, 0, 0, 0] ∧ win0_4.index t = ![0, 0, 0, 0] ∧ win0_5.index t = ![0, 0]
    ∧ win0_6.index t = ![t.val / 8, 0, 0] :=
  (by decide +kernel : ∀ t : Fin grid0.N, _)

variable (m : (ℓ : Loc nD τ sig) → Buf (Elt Ideal) ℓ) (c : Dev nD)

/-- The input array, -/
abbrev in0 : FVec Ideal S2x384x16x16 .f32 := m ((c : Thread nD τ).loc main_arg0)
/-- the projection weights', -/
abbrev in1 : FVec Ideal S12x4 .f32 := m ((c : Thread nD τ).loc main_arg1)
/-- the convolution weights', -/
abbrev in2 : FVec Ideal S12x1x3x3 .f32 := m ((c : Thread nD τ).loc main_arg2)
/-- the temperatures', -/
abbrev in3 : FVec Ideal S1x8x1x1 .f32 := m ((c : Thread nD τ).loc main_arg3)
/-- and the last projection's. -/
abbrev in4 : FVec Ideal S384x384 .f32 := m ((c : Thread nD τ).loc main_arg4)

/-- The input as the heads' images, -/
theorem entry_v1 : (V m c main_v1 : FVec Ideal S2x4x8x12x256 .f32) = shapeCast S2x4x8x12x256 (in0 m c) shapeCasts_S2x384x16x16_S2x4x8x12x256 := by
  entry_read
  rfl

/-- and as the residual. -/
theorem entry_v0 : (V m c main_v0 : FVec Ideal S2x384x256 .f32) = shapeCast S2x384x256 (in0 m c) shapeCasts_S2x384x16x16_S2x384x256 := by
  entry_read
  rfl

/-- The host's first reshape at an index: the image rows, by group and head. -/
theorem entry_v1_apply (b : Fin 2) (g : Fin 4) (h : Fin 8) (k : Fin 12) (p : Fin 256) :
    (V m c main_v1 : FVec Ideal S2x4x8x12x256 .f32) (ix5 b g h k p)
      = in0 m c (ix4 b ⟨g.val * 96 + (h.val * 12 + k.val), by omega⟩ ⟨p.val / 16, by omega⟩ ⟨p.val % 16, by omega⟩) := by
  rw [entry_v1]
  generalize in0 m c = x
  pointwise
  blk_ext

/-- The other reshape at an index: the image rows, by channel. -/
theorem entry_v0_apply (b : Fin 2) (o : Fin 384) (p : Fin 256) :
    (V m c main_v0 : FVec Ideal S2x384x256 .f32) (ix3 b o p) = in0 m c (ix4 b o ⟨p.val / 16, by omega⟩ ⟨p.val % 16, by omega⟩) := by
  rw [entry_v0]
  generalize in0 m c = x
  pointwise

variable (t : Fin cfg0.N)

/-- A point's images are its head's, -/
theorem imgs_blk (b : Fin 2) (h : Fin 8) (hb : b.val = t.val / 8) (hh : h.val = t.val % 8) (g : Fin 4) (k : Fin 12) (p : Fin 256) :
    imgs (iblk m c 0 t) g (ix2 k p)
      = in0 m c (ix4 b ⟨g.val * 96 + (h.val * 12 + k.val), by omega⟩ ⟨p.val / 16, by omega⟩ ⟨p.val % 16, by omega⟩) := by
  rw [← entry_v1_apply]
  unfold imgs
  blk_ext [iblk, idx t]

/-- its projection weights, -/
theorem wqs_blk (o : Fin 12) (g : Fin 4) : wqs (iblk m c 2 t) o g = in1 m c (ix2 o g) := by
  unfold wqs
  blk_ext [iblk, V, idx t]

/-- its convolution weights -/
theorem wds_blk (o : Fin 12) (u v : Fin 3) : wds (iblk m c 3 t) o u v = in2 m c (ix4 o 0 u v) := by
  unfold wds
  blk_ext [iblk, V, idx t]

/-- and temperatures the arrays', -/
theorem temp_blk (h : Fin 8) : temp (iblk m c 4 t) h = in3 m c (ix4 0 h 0 0) := by
  unfold temp
  blk_ext [iblk, V, idx t]

/-- and so are the last projection's weights -/
theorem proj_blk : (iblk m c 5 t : FVec Ideal S384x384 .f32) = in4 m c := by
  blk_ext! [iblk, V, idx t]

/-- and the residual. -/
theorem res_blk (b : Fin 2) (hb : b.val = t.val / 8) (o : Fin 384) (p : Fin 256) : (iblk m c 1 t : FVec Ideal S1x384x256 .f32) (ix3 0 o p)
    = in0 m c (ix4 b o ⟨p.val / 16, by omega⟩ ⟨p.val % 16, by omega⟩) := by
  rw [← entry_v0_apply]
  blk_ext [iblk, idx t]

end Cert.Proof.PI

end
-- ==== Proof.Final.lean ====
/-
  The kernel's result array is the reference's output.
-/
module

public import proofs.«01_k».proof.Proof.Tie
public import proofs.«01_k».proof.Proof.RefOut
public import proofs.«01_k».proof.Proof.Blocks

@[expose] public section

set_option maxRecDepth 16384

noncomputable section

namespace Cert.Proof.PI

open Cert.KernelIdeal Cert.KernelIdeal.Gen
open Idealize.ShloMosaic Idealize.ShloMosaic.TcCoe
open Cert.Proof.Conv (IsReal)

variable (m : (ℓ : Loc nD τ sig) → Buf (Elt Ideal) ℓ) (c : Dev nD)
  (V' : Valuation Cert.ReferenceIdeal.τ Cert.ReferenceIdeal.sig (Elt Ideal))

/-- The reference's first four arguments are the kernel's. -/
structure Agree : Prop where
  a0 : ∀ i, RI.arg V' i = in0 m c i
  a1 : ∀ o g, RI.wq V' o g = in1 m c (ix2 o g)
  a2 : ∀ o u v, RI.wd V' o u v = in2 m c (ix4 o 0 u v)
  a3 : ∀ h, RI.tp V' h = in3 m c (ix4 0 h 0 0)

variable {m c V'}

/-- The scratch of a whole batch element is the reference's attention. -/
theorem full_apply (ha : Agree m c V') (hr : ∀ i, IsReal (in3 m c i)) (b : Fin 2) (g : Fin 4) (h : Fin 8) (k : Fin 12) (p : Fin 256) :
    full m c b.val (ix4 g h k p)
      = RI.mean (RI.vals V') (Cert.ReferenceIdeal.Value.res_main_v109 V') (ix4 b h k (RI.pos ⟨256 * g.val + p.val, by omega⟩)) := by
  have ht : (point (8 * b.val + h.val)).val = 8 * b.val + h.val := Nat.mod_eq_of_lt (by omega)
  show stored (imgs (iblk m c 0 (point (8 * b.val + h.val)))) (wqs (iblk m c 2 (point (8 * b.val + h.val))))
    (wds (iblk m c 3 (point (8 * b.val + h.val)))) (temp (iblk m c 4 (point (8 * b.val + h.val))) h) g (ix4 0 0 k p) = _
  generalize point (8 * b.val + h.val) = t at ht ⊢
  refine stored_eq _ _ _ _ V' b h (fun g k p => ?_) ?_ ?_ ?_ ?_ g k p _ rfl
  · exact (imgs_blk m c t b h (by omega) (by omega) g k p).trans (ha.a0 _).symm
  · funext o g
    exact (wqs_blk m c t o g).trans (ha.a1 o g).symm
  · funext o u v
    exact (wds_blk m c t o u v).trans (ha.a2 o u v).symm
  · exact (temp_blk m c t h).trans (ha.a3 h).symm
  · rw [ha.a3]
    exact hr _

/-- The block of one batch element is the output's. -/
theorem outBlk_apply (ha : Agree m c V') (hr : ∀ i, IsReal (in3 m c i)) (t : Fin cfg0.N) (b : Fin 2) (hb : b.val = t.val / 8) (o : Fin 384)
    (p : Fin 256) : outBlk m c t (ix3 0 o p)
      = RI.out (in0 m c) (in4 m c) (RI.mean (RI.vals V') (Cert.ReferenceIdeal.Value.res_main_v109 V')) (ix3 b o p) := by
  unfold outBlk
  rw [RI.out_apply, ← hb]
  refine (pay_apply _ _ _ o p).trans ?_
  rw [res_blk m c t b hb, proj_blk]
  refine congrArg (in0 m c (ix4 b o ⟨p.val / 16, by omega⟩ ⟨p.val % 16, by omega⟩) + ·) (Finset.sum_congr rfl fun i _ => ?_)
  rw [full_apply ha hr]

/-- The whole array is. -/
theorem final (ha : Agree m c V') (hr : ∀ i, IsReal (in3 m c i)) : (dats m 0 c).arrAt 6 cfg0.N
    = RI.out (in0 m c) (in4 m c) (RI.mean (RI.vals V') (Cert.ReferenceIdeal.Value.res_main_v109 V')) := by
  refine (dats m 0 c).arrAt_eq_of_covers 6 _ (by decide +kernel) fun t hf y => ?_
  blk_simp
  rw [after_6]
  have hN : t.val < 16 := t.isLt
  have y0 : (y 0).val < 1 := (y 0).isLt
  have e : y = ix3 (0 : Fin 1) (y 1) (y 2) := funext fun a => Fin.ext (by
    match a with
    | ⟨0, _⟩ => show (y 0).val = 0; omega
    | ⟨1, _⟩ => rfl
    | ⟨2, _⟩ => rfl)
  have e' : (win0_6.blk t).view.emb y = ix3 (⟨t.val / 8, by omega⟩ : Fin 2) (y 1 : Fin 384) (y 2 : Fin 256) := by
    blk_ext [idx t]
  rw [e']
  exact (congrArg (outBlk m c t) e).trans (outBlk_apply ha hr t ⟨t.val / 8, by omega⟩ rfl (y 1) (y 2))

end Cert.Proof.PI

end
-- ==== Proof.Finite.lean ====
/-
  Where the precondition holds, the temperature's entries are reals.
-/
module

public import proofs.«01_k».proof.Proof.Gen.Pre_finite
public import proofs.«01_k».proof.Proof.Conv
public import Idealize.ShloMosaic.Lib.ReduceAll
public import Idealize.ShloMosaic.Lib.Pointwise
public import Idealize.ShloMosaic.PureOps.Ideal.Laws

@[expose] public section

set_option maxRecDepth 16384

noncomputable section

namespace Cert.Proof.Finite

open Cert.Pre_finite Cert.Pre_finite.Gen
open Idealize.ShloMosaic
open Cert.Proof.Conv (IsReal)

/-- The bits of infinity denote the top. -/
theorem bits_top : Ideal.ofBits .f32 0x7F800000#32 = ⊤ := by
  have e : ((0x7F800000#32).extractLsb' 23 8).toNat = 255 := by decide +kernel
  have f : ((0x7F800000#32).extractLsb' 0 23).toNat = 0 := by decide +kernel
  have s : ((0x7F800000#32).extractLsb' (8 + 23) 1 == 1#1) = false := by decide +kernel
  unfold Ideal.ofBits Ideal.ieee
  simp only [e, f, s]
  rfl

/-- A number whose magnitude is below infinity is a real. -/
theorem real_of_lt (x : EReal) (h : BitVec.ofBool (decide (max x (-x) < Ideal.ofBits .f32 0x7F800000#32)) = 1#1) : IsReal x := by
  rw [bits_top] at h
  have h' : max x (-x) < ⊤ := by
    by_contra hn
    rw [decide_eq_false hn] at h
    exact absurd h (by decide)
  induction x using EReal.rec with
  | bot => simp at h'
  | top => simp at h'
  | coe r => exact ⟨r, rfl⟩

variable (x0 : FVec Ideal S2x384x16x16 .f32) (x1 : FVec Ideal S12x4 .f32) (x2 : FVec Ideal S12x1x3x3 .f32)
  (x3 : FVec Ideal S1x8x1x1 .f32) (x4 : FVec Ideal S384x384 .f32)

/-- The precondition's condition. -/
theorem reals (h : fn x0 x1 x2 x3 x4 = fun _ => 1#1) (i) : IsReal (x3 i) := by
  haveI : Subsingleton S_.Idx := ⟨fun a b => funext fun i => i.elim0⟩
  unfold fn at h
  exact real_of_lt _ (Host.reduce_andi_all _ _ _ _ ix0 (congrFun h ix0) i)

end Cert.Proof.Finite

end
-- ==== Proof.lean ====
/-
  The proof of the claim: the frames, that the idealization is the kernel's own program, and that with a real temperature the
  kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Launch
public import proofs.«01_k».proof.Proof.Same
public import proofs.«01_k».proof.Proof.Final
public import proofs.«01_k».proof.Proof.Finite
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- Every run of the reference ends with its arguments unchanged and every counter at zero. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

/-- The kernel's run with its result: the array its proof data ends at, every argument unchanged. -/
theorem run_kernel (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v2) = (PI.dats m 0 c).arrAt 6 Cert.KernelIdeal.cfg0.N
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  (θ_run _ _ _).mono (fun _ h c => ⟨h.1.out_eq c 6,
    (h.1.rest_eq c Cert.KernelIdeal.main_arg0 (Pipeline.mem_restRefs_of Cert.KernelIdeal.main_arg0 (by decide) (by decide))).trans (Cert.KernelIdeal.Gen.V_main_arg0 m c),
    (h.1.in_eq c 2 rfl).trans ((PI.A_eq m c 2).trans (Cert.KernelIdeal.Gen.V_main_arg1 m c)),
    (h.1.in_eq c 3 rfl).trans ((PI.A_eq m c 3).trans (Cert.KernelIdeal.Gen.V_main_arg2 m c)),
    (h.1.in_eq c 4 rfl).trans ((PI.A_eq m c 4).trans (Cert.KernelIdeal.Gen.V_main_arg3 m c)),
    (h.1.in_eq c 5 rfl).trans ((PI.A_eq m c 5).trans (Cert.KernelIdeal.Gen.V_main_arg4 m c))⟩) (PI.run m ρ)

/-- From arguments that agree and meet the precondition, the kernel and the reference end with one result. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => (PI.dats m 0 c).arrAt 6 Cert.KernelIdeal.cfg0.N, run_kernel m g, ?_⟩
  refine (θ_run _ _ _).mono (fun r h c => ⟨(h c).1.trans ?_, (h c).2⟩) (Cert.ReferenceIdeal.Value.run (F := Ideal) m' g')
  obtain ⟨e0, e1, e2, e3, e4⟩ := hagree c
  have ha : PI.Agree m c (StableHlo.launchContents m' c) := ⟨fun i => congrFun e0 i, fun o g => congrFun e1 _,
    fun o u v => congrFun e2 _, fun h => congrFun e3 _⟩
  refine Eq.trans ?_ (PI.final ha (Finite.reals _ _ _ _ _ (hpre c))).symm
  rw [← show m' ((c.tc : Thread Cert.ReferenceIdeal.nD Cert.ReferenceIdeal.τ).loc Cert.ReferenceIdeal.main_arg0) = PI.in0 m c from e0,
    ← show m' ((c.tc : Thread Cert.ReferenceIdeal.nD Cert.ReferenceIdeal.τ).loc Cert.ReferenceIdeal.main_arg4) = PI.in4 m c from e4]
  rfl

/-- Every claim of the certificate. -/
theorem claim : Cert.Claim := ⟨Cert.Kernel.Gen.facts, Cert.KernelIdeal.Gen.facts, Cert.ReferenceIdeal.Gen.facts, Cert.Pre_finite.Gen.facts,
  Same.frame, fun m ρ _ => PI.frame m ρ, fun m ρ _ => PI.frame m ρ, frame_reference, fun m ρ _ => frame_reference m ρ trivial, trivial, algebraic⟩

end Cert.Proof

end
